-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_named [hPre_boxes_named : Cert.Pre_boxes_named.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_named [hPre_boxes_named : Cert.Pre_boxes_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_boxes_named [hKernelIdeal : Cert.KernelIdeal.Facts] [hPre_boxes_named : Cert.Pre_boxes_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_named m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_boxes_named [hReferenceIdeal : Cert.ReferenceIdeal.Facts] [hPre_boxes_named : Cert.Pre_boxes_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_boxes_named [hKernelIdeal : Cert.KernelIdeal.Facts] [hReferenceIdeal : Cert.ReferenceIdeal.Facts] [hPre_boxes_named : Cert.Pre_boxes_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_named m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v225) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_boxes_named : Cert.Pre_boxes_named.Facts),
    quiescent_Kernel (hKernel := hKernel)
    ∧ quiescent_KernelIdeal (hKernelIdeal := hKernelIdeal)
    ∧ quiescent_KernelIdeal_pre_boxes_named (hKernelIdeal := hKernelIdeal) (hPre_boxes_named := hPre_boxes_named)
    ∧ quiescent_ReferenceIdeal (hReferenceIdeal := hReferenceIdeal)
    ∧ quiescent_ReferenceIdeal_pre_boxes_named (hReferenceIdeal := hReferenceIdeal) (hPre_boxes_named := hPre_boxes_named)
    ∧ preserves_Kernel_KernelIdeal
    ∧ algebraic_KernelIdeal_ReferenceIdeal_pre_boxes_named (hKernelIdeal := hKernelIdeal) (hReferenceIdeal := hReferenceIdeal) (hPre_boxes_named := hPre_boxes_named)
-- ==== Pre_boxes_named.lean ====
abbrev S16x4x8192 : Shape := ⟨3, ![16, 4, 8192]⟩
abbrev S16x80x8192 : Shape := ⟨3, ![16, 80, 8192]⟩
abbrev S16x1x8192 : Shape := ⟨3, ![16, 1, 8192]⟩
abbrev S16x64x4 : Shape := ⟨3, ![16, 64, 4]⟩
abbrev S8192x2 : Shape := ⟨2, ![8192, 2]⟩
abbrev S16x8192 : Shape := ⟨2, ![16, 8192]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel

variable [Facts]

def fn {F : FTy → Type} [FloatOps F] (main_arg0 : FVec F S16x4x8192 .f32) (main_arg1 : FVec F S16x80x8192 .f32) (main_arg2 : FVec F S16x1x8192 .f32) (main_arg3 : FVec F S16x64x4 .f32) (main_arg4 : FVec F S8192x2 .f32) (main_arg5 : FVec F S16x80x8192 .f32) (main_arg6 : IVec S16x8192 1) (main_arg7 : IVec S16x8192 32) : IVec S_ 1 :=
  let main_c : IVec S_ 32 := constantI S_ 32 0#32
  let main_v0 : IVec S16x8192 32 := broadcastInDim S16x8192 ![] bcast_S_S16x8192 main_c
  let main_v1 : IVec S16x8192 1 := cmpi .sge main_arg7 main_v0
  let main_c_0 : IVec S_ 32 := constantI S_ 32 64#32
  let main_v2 : IVec S16x8192 32 := broadcastInDim S16x8192 ![] bcast_S_S16x8192 main_c_0
  let main_v3 : IVec S16x8192 1 := cmpi .slt main_arg7 main_v2
  let main_v4 : IVec S16x8192 1 := andi main_v1 main_v3
  let main_c_1 : IVec S_ 1 := constantI S_ 1 1#1
  let main_v5 : IVec S_ 1 := (fun x v => Host.reduce IntOp.andi x v reducesTo_S16x8192_S_d0_1 h_S_) main_v4 main_c_1
  main_v5
-- ==== Kernel.lean ====
abbrev S16x4x8192 : Shape := ⟨3, ![16, 4, 8192]⟩
abbrev S16x80x8192 : Shape := ⟨3, ![16, 80, 8192]⟩
abbrev S16x1x8192 : Shape := ⟨3, ![16, 1, 8192]⟩
abbrev S16x64x4 : Shape := ⟨3, ![16, 64, 4]⟩
abbrev S8192x2 : Shape := ⟨2, ![8192, 2]⟩
abbrev S16x8192 : Shape := ⟨2, ![16, 8192]⟩
abbrev S1280x8192 : Shape := ⟨2, ![1280, 8192]⟩
abbrev S16x4x64 : Shape := ⟨3, ![16, 4, 64]⟩
abbrev S2x8192 : Shape := ⟨2, ![2, 8192]⟩
abbrev S4 : Shape := ⟨1, ![4]⟩
abbrev S160x8192 : Shape := ⟨2, ![160, 8192]⟩
abbrev S4x16x8192 : Shape := ⟨3, ![4, 16, 8192]⟩
abbrev S1x8192 : Shape := ⟨2, ![1, 8192]⟩
abbrev S64x8192 : Shape := ⟨2, ![64, 8192]⟩
abbrev S1x4x64 : Shape := ⟨3, ![1, 4, 64]⟩
abbrev S4x64 : Shape := ⟨2, ![4, 64]⟩
abbrev S4x8192 : Shape := ⟨2, ![4, 8192]⟩
abbrev S4x1x8192 : Shape := ⟨3, ![4, 1, 8192]⟩
abbrev S1x16x8192 : Shape := ⟨3, ![1, 16, 8192]⟩
abbrev S1 : Shape := ⟨1, ![1]⟩
abbrev S1x1x1 : Shape := ⟨3, ![1, 1, 1]⟩
abbrev S1x160 : Shape := ⟨2, ![1, 160]⟩
abbrev S1x1x8192 : Shape := ⟨3, ![1, 1, 8192]⟩
abbrev S_ : Shape := ⟨0, ![]⟩

abbrev nBuf : Space → Nat
  | .hbm => 22
  | .vmem => 12
  | .smem => 2
  | _ => 0

abbrev bufTy : (tb : Table) → Fin (tcTables nBuf tb) → BufTy
  | .hbm, ⟨0, _⟩ => ⟨S16x4x8192, .f32⟩
  | .hbm, ⟨1, _⟩ => ⟨S16x80x8192, .f32⟩
  | .hbm, ⟨2, _⟩ => ⟨S16x1x8192, .f32⟩
  | .hbm, ⟨3, _⟩ => ⟨S16x64x4, .f32⟩
  | .hbm, ⟨4, _⟩ => ⟨S8192x2, .f32⟩
  | .hbm, ⟨5, _⟩ => ⟨S16x80x8192, .f32⟩
  | .hbm, ⟨6, _⟩ => ⟨S16x8192, .i1⟩
  | .hbm, ⟨7, _⟩ => ⟨S16x8192, .i32⟩
  | .hbm, ⟨8, _⟩ => ⟨S1280x8192, .f32⟩
  | .hbm, ⟨9, _⟩ => ⟨S1280x8192, .f32⟩
  | .hbm, ⟨10, _⟩ => ⟨S16x4x64, .f32⟩
  | .hbm, ⟨11, _⟩ => ⟨S2x8192, .f32⟩
  | .hbm, ⟨12, _⟩ => ⟨S16x8192, .f32⟩
  | .hbm, ⟨13, _⟩ => ⟨S4, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .local _ .vmem, ⟨0, _⟩ => ⟨S160x8192, .f32⟩
  | .local _ .vmem, ⟨1, _⟩ => ⟨S160x8192, .f32⟩
  | .local _ .vmem, ⟨2, _⟩ => ⟨S160x8192, .f32⟩
  | .local _ .vmem, ⟨3, _⟩ => ⟨S160x8192, .f32⟩
  | .local _ .vmem, ⟨4, _⟩ => ⟨S16x4x8192, .f32⟩
  | .local _ .vmem, ⟨5, _⟩ => ⟨S16x1x8192, .f32⟩
  | .local _ .vmem, ⟨6, _⟩ => ⟨S16x4x64, .f32⟩
  | .local _ .vmem, ⟨7, _⟩ => ⟨S2x8192, .f32⟩
  | .local _ .vmem, ⟨8, _⟩ => ⟨S16x8192, .f32⟩
  | .local _ .vmem, ⟨9, _⟩ => ⟨S16x8192, .i32⟩
  | .local _ .vmem, ⟨10, _⟩ => ⟨S4x16x8192, .f32⟩
  | .local _ .vmem, ⟨11, _⟩ => ⟨S1x8192, .f32⟩
  | .local _ .smem, ⟨0, _⟩ => ⟨S4, .f32⟩
  | .local _ .smem, ⟨1, _⟩ => ⟨S4, .f32⟩
  | _, _ => ⟨S16x4x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch2 : Ref sig .tc := ⟨.vmem, 11, rfl⟩
abbrev cc0_stg8_0 : Ref sig .tc := ⟨.smem, 0, rfl⟩
abbrev cc0_scratch1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S160x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x8192 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S16x4x8192 : Shape := ⟨3, ![16, 4, 8192]⟩
abbrev S16x80x8192 : Shape := ⟨3, ![16, 80, 8192]⟩
abbrev S16x1x8192 : Shape := ⟨3, ![16, 1, 8192]⟩
abbrev S16x64x4 : Shape := ⟨3, ![16, 64, 4]⟩
abbrev S8192x2 : Shape := ⟨2, ![8192, 2]⟩
abbrev S16x8192 : Shape := ⟨2, ![16, 8192]⟩
abbrev S_ : Shape := ⟨0, ![]⟩
abbrev S131072 : Shape := ⟨1, ![131072]⟩
abbrev S16x8192x4 : Shape := ⟨3, ![16, 8192, 4]⟩
abbrev S131072x4 : Shape := ⟨2, ![131072, 4]⟩
abbrev S16x8192x1 : Shape := ⟨3, ![16, 8192, 1]⟩
abbrev S16 : Shape := ⟨1, ![16]⟩
abbrev S16x1 : Shape := ⟨2, ![16, 1]⟩
abbrev S16x8192x2 : Shape := ⟨3, ![16, 8192, 2]⟩
abbrev S1x8192x1x2 : Shape := ⟨4, ![1, 8192, 1, 2]⟩
abbrev S16x8192x1x2 : Shape := ⟨4, ![16, 8192, 1, 2]⟩
abbrev S131072x2 : Shape := ⟨2, ![131072, 2]⟩
abbrev S131072x1 : Shape := ⟨2, ![131072, 1]⟩

abbrev nBuf : Space → Nat
  | .hbm => 274
  | .vmem => 0
  | .smem => 0
  | _ => 0

abbrev hbmTy0_0 (i : Nat) : BufTy := match i % 128 with
  | 0 => ⟨S16x4x8192, .f32⟩
  | 1 => ⟨S16x80x8192, .f32⟩
  | 2 => ⟨S16x1x8192, .f32⟩
  | 3 => ⟨S16x64x4, .f32⟩
  | 4 => ⟨S8192x2, .f32⟩
  | 5 => ⟨S16x80x8192, .f32⟩
  | 6 => ⟨S16x8192, .i1⟩
  | 7 => ⟨S16x8192, .i32⟩
  | 8 => ⟨S_, .f32⟩
  | 9 => ⟨S16x80x8192, .f32⟩
  | 10 => ⟨S16x80x8192, .f32⟩
  | 11 => ⟨S16x80x8192, .f32⟩
  | 12 => ⟨S16x80x8192, .f32⟩
  | 13 => ⟨S16x80x8192, .i1⟩
  | 14 => ⟨S16x80x8192, .f32⟩
  | 15 => ⟨S16x80x8192, .f32⟩
  | 16 => ⟨S16x80x8192, .f32⟩
  | 17 => ⟨S16x80x8192, .f32⟩
  | 18 => ⟨S16x80x8192, .f32⟩
  | 19 => ⟨S16x80x8192, .f32⟩
  | 20 => ⟨S16x80x8192, .f32⟩
  | 21 => ⟨S16x80x8192, .f32⟩
  | 22 => ⟨S16x80x8192, .f32⟩
  | 23 => ⟨S16x80x8192, .f32⟩
  | 24 => ⟨S16x80x8192, .f32⟩
  | 25 => ⟨S16x80x8192, .f32⟩
  | 26 => ⟨S_, .f32⟩
  | 27 => ⟨S16x80x8192, .f32⟩
  | 28 => ⟨S16x80x8192, .f32⟩
  | 29 => ⟨S16x80x8192, .f32⟩
  | 30 => ⟨S_, .f32⟩
  | 31 => ⟨S16x80x8192, .f32⟩
  | 32 => ⟨S16x80x8192, .f32⟩
  | 33 => ⟨S16x80x8192, .f32⟩
  | 34 => ⟨S16x8192, .i32⟩
  | 35 => ⟨S_, .i32⟩
  | 36 => ⟨S_, .i32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S131072, .i1⟩
  | 44 => ⟨S131072, .f32⟩
  | 45 => ⟨S_, .f32⟩
  | 46 => ⟨S_, .f32⟩
  | 47 => ⟨S_, .f32⟩
  | 48 => ⟨S_, .f32⟩
  | 49 => ⟨S16x8192x4, .f32⟩
  | 50 => ⟨S131072x4, .f32⟩
  | 51 => ⟨S16x8192x1, .f32⟩
  | 52 => ⟨S131072, .f32⟩
  | 53 => ⟨S16, .i32⟩
  | 54 => ⟨S16x1, .i32⟩
  | 55 => ⟨S_, .i32⟩
  | 56 => ⟨S16x1, .i32⟩
  | 57 => ⟨S16x1, .i1⟩
  | 58 => ⟨S_, .i32⟩
  | 59 => ⟨S16x1, .i32⟩
  | 60 => ⟨S16x1, .i32⟩
  | 61 => ⟨S16x1, .i32⟩
  | 62 => ⟨S_, .i32⟩
  | 63 => ⟨S16x8192, .i32⟩
  | 64 => ⟨S16x8192, .i1⟩
  | 65 => ⟨S_, .i32⟩
  | 66 => ⟨S16x8192, .i32⟩
  | 67 => ⟨S16x8192, .i32⟩
  | 68 => ⟨S16x8192, .i32⟩
  | 69 => ⟨S16x8192, .i32⟩
  | 70 => ⟨S16x8192x1, .i32⟩
  | 71 => ⟨S16x8192x1, .i32⟩
  | 72 => ⟨S16x8192x2, .i32⟩
  | 73 => ⟨S16x8192x4, .f32⟩
  | 74 => ⟨S131072x4, .f32⟩
  | 75 => ⟨S1x8192x1x2, .f32⟩
  | 76 => ⟨S16x8192x1x2, .f32⟩
  | 77 => ⟨S131072x2, .f32⟩
  | 78 => ⟨S131072x1, .f32⟩
  | 79 => ⟨S131072, .f32⟩
  | 80 => ⟨S131072x1, .f32⟩
  | 81 => ⟨S131072, .f32⟩
  | 82 => ⟨S131072x1, .f32⟩
  | 83 => ⟨S131072, .f32⟩
  | 84 => ⟨S131072, .f32⟩
  | 85 => ⟨S131072x1, .f32⟩
  | 86 => ⟨S131072, .f32⟩
  | 87 => ⟨S131072, .f32⟩
  | 88 => ⟨S131072x1, .f32⟩
  | 89 => ⟨S131072, .f32⟩
  | 90 => ⟨S131072, .f32⟩
  | 91 => ⟨S131072x1, .f32⟩
  | 92 => ⟨S131072, .f32⟩
  | 93 => ⟨S131072, .f32⟩
  | 94 => ⟨S131072, .f32⟩
  | 95 => ⟨S131072, .f32⟩
  | 96 => ⟨S_, .f32⟩
  | 97 => ⟨S131072, .f32⟩
  | 98 => ⟨S131072, .f32⟩
  | 99 => ⟨S131072, .f32⟩
  | 100 => ⟨S131072, .f32⟩
  | 101 => ⟨S131072, .f32⟩
  | 102 => ⟨S_, .f32⟩
  | 103 => ⟨S131072, .f32⟩
  | 104 => ⟨S131072, .f32⟩
  | 105 => ⟨S131072, .f32⟩
  | 106 => ⟨S131072, .f32⟩
  | 107 => ⟨S131072, .f32⟩
  | 108 => ⟨S_, .f32⟩
  | 109 => ⟨S131072, .f32⟩
  | 110 => ⟨S131072, .f32⟩
  | 111 => ⟨S131072, .f32⟩
  | 112 => ⟨S131072, .f32⟩
  | 113 => ⟨S131072, .i1⟩
  | 114 => ⟨S131072, .f32⟩
  | 115 => ⟨S131072, .f32⟩
  | 116 => ⟨S131072, .f32⟩
  | 117 => ⟨S131072, .f32⟩
  | 118 => ⟨S131072, .f32⟩
  | 119 => ⟨S131072, .f32⟩
  | 120 => ⟨S131072, .f32⟩
  | 121 => ⟨S131072, .f32⟩
  | 122 => ⟨S131072, .f32⟩
  | 123 => ⟨S131072, .f32⟩
  | 124 => ⟨S131072, .f32⟩
  | 125 => ⟨S_, .f32⟩
  | 126 => ⟨S_, .f32⟩
  | 127 => ⟨S_, .f32⟩
  | _ => ⟨S16x4x8192, .f32⟩

abbrev hbmTy0_1 (i : Nat) : BufTy := match i % 128 with
  | 0 => ⟨S131072x1, .f32⟩
  | 1 => ⟨S131072, .f32⟩
  | 2 => ⟨S131072, .f32⟩
  | 3 => ⟨S131072x1, .f32⟩
  | 4 => ⟨S131072, .f32⟩
  | 5 => ⟨S131072, .f32⟩
  | 6 => ⟨S131072x1, .f32⟩
  | 7 => ⟨S131072, .f32⟩
  | 8 => ⟨S131072, .f32⟩
  | 9 => ⟨S131072x1, .f32⟩
  | 10 => ⟨S131072, .f32⟩
  | 11 => ⟨S131072, .f32⟩
  | 12 => ⟨S_, .f32⟩
  | 13 => ⟨S131072, .f32⟩
  | 14 => ⟨S131072, .f32⟩
  | 15 => ⟨S131072, .f32⟩
  | 16 => ⟨S131072, .f32⟩
  | 17 => ⟨S131072, .i1⟩
  | 18 => ⟨S131072, .f32⟩
  | 19 => ⟨S131072, .f32⟩
  | 20 => ⟨S131072, .f32⟩
  | 21 => ⟨S131072, .f32⟩
  | 22 => ⟨S131072, .f32⟩
  | 23 => ⟨S131072, .f32⟩
  | 24 => ⟨S131072, .f32⟩
  | 25 => ⟨S131072, .f32⟩
  | 26 => ⟨S_, .f32⟩
  | 27 => ⟨S131072, .f32⟩
  | 28 => ⟨S131072, .f32⟩
  | 29 => ⟨S131072, .f32⟩
  | 30 => ⟨S131072, .f32⟩
  | 31 => ⟨S131072, .i1⟩
  | 32 => ⟨S131072, .f32⟩
  | 33 => ⟨S131072, .f32⟩
  | 34 => ⟨S131072, .f32⟩
  | 35 => ⟨S131072, .f32⟩
  | 36 => ⟨S131072, .f32⟩
  | 37 => ⟨S131072, .f32⟩
  | 38 => ⟨S131072, .f32⟩
  | 39 => ⟨S131072, .f32⟩
  | 40 => ⟨S_, .f32⟩
  | 41 => ⟨S131072, .f32⟩
  | 42 => ⟨S131072, .f32⟩
  | 43 => ⟨S131072, .f32⟩
  | 44 => ⟨S_, .f32⟩
  | 45 => ⟨S131072, .f32⟩
  | 46 => ⟨S131072, .f32⟩
  | 47 => ⟨S131072, .f32⟩
  | 48 => ⟨S_, .f32⟩
  | 49 => ⟨S131072, .f32⟩
  | 50 => ⟨S131072, .f32⟩
  | 51 => ⟨S131072, .f32⟩
  | 52 => ⟨S_, .f32⟩
  | 53 => ⟨S131072, .f32⟩
  | 54 => ⟨S131072, .f32⟩
  | 55 => ⟨S131072, .f32⟩
  | 56 => ⟨S131072x1, .f32⟩
  | 57 => ⟨S131072, .f32⟩
  | 58 => ⟨S131072, .f32⟩
  | 59 => ⟨S131072x1, .f32⟩
  | 60 => ⟨S131072, .f32⟩
  | 61 => ⟨S131072, .f32⟩
  | 62 => ⟨S131072x1, .f32⟩
  | 63 => ⟨S131072, .f32⟩
  | 64 => ⟨S131072, .f32⟩
  | 65 => ⟨S131072x1, .f32⟩
  | 66 => ⟨S131072, .f32⟩
  | 67 => ⟨S131072, .f32⟩
  | 68 => ⟨S131072, .f32⟩
  | 69 => ⟨S_, .f32⟩
  | 70 => ⟨S131072, .f32⟩
  | 71 => ⟨S131072, .f32⟩
  | 72 => ⟨S131072, .f32⟩
  | 73 => ⟨S_, .f32⟩
  | 74 => ⟨S131072, .f32⟩
  | 75 => ⟨S131072, .f32⟩
  | 76 => ⟨S131072, .f32⟩
  | 77 => ⟨S131072, .f32⟩
  | 78 => ⟨S131072, .f32⟩
  | 79 => ⟨S131072, .f32⟩
  | 80 => ⟨S131072x1, .f32⟩
  | 81 => ⟨S131072, .f32⟩
  | 82 => ⟨S131072x1, .f32⟩
  | 83 => ⟨S131072, .f32⟩
  | 84 => ⟨S131072, .f32⟩
  | 85 => ⟨S131072x1, .f32⟩
  | 86 => ⟨S131072, .f32⟩
  | 87 => ⟨S131072x1, .f32⟩
  | 88 => ⟨S131072, .f32⟩
  | 89 => ⟨S131072, .f32⟩
  | 90 => ⟨S131072, .f32⟩
  | 91 => ⟨S131072, .f32⟩
  | 92 => ⟨S131072, .f32⟩
  | 93 => ⟨S_, .f32⟩
  | 94 => ⟨S131072, .f32⟩
  | 95 => ⟨S131072, .f32⟩
  | 96 => ⟨S_, .f32⟩
  | 97 => ⟨S131072, .f32⟩
  | 98 => ⟨S131072, .f32⟩
  | 99 => ⟨S131072, .f32⟩
  | 100 => ⟨S131072x1, .f32⟩
  | 101 => ⟨S131072, .f32⟩
  | 102 => ⟨S131072, .f32⟩
  | 103 => ⟨S131072x1, .f32⟩
  | 104 => ⟨S131072, .f32⟩
  | 105 => ⟨S131072, .f32⟩
  | 106 => ⟨S131072x1, .f32⟩
  | 107 => ⟨S131072, .f32⟩
  | 108 => ⟨S131072, .f32⟩
  | 109 => ⟨S131072x1, .f32⟩
  | 110 => ⟨S131072, .f32⟩
  | 111 => ⟨S131072, .f32⟩
  | 112 => ⟨S131072, .f32⟩
  | 113 => ⟨S_, .f32⟩
  | 114 => ⟨S131072, .f32⟩
  | 115 => ⟨S131072, .f32⟩
  | 116 => ⟨S131072, .f32⟩
  | 117 => ⟨S_, .f32⟩
  | 118 => ⟨S131072, .f32⟩
  | 119 => ⟨S131072, .f32⟩
  | 120 => ⟨S131072, .f32⟩
  | 121 => ⟨S_, .f32⟩
  | 122 => ⟨S131072, .f32⟩
  | 123 => ⟨S131072, .f32⟩
  | 124 => ⟨S131072, .f32⟩
  | 125 => ⟨S_, .f32⟩
  | 126 => ⟨S131072, .f32⟩
  | 127 => ⟨S131072, .f32⟩
  | _ => ⟨S16x4x8192, .f32⟩

abbrev hbmTy0_2 (i : Nat) : BufTy := match i % 128 with
  | 0 => ⟨S131072, .f32⟩
  | 1 => ⟨S131072, .f32⟩
  | 2 => ⟨S_, .f32⟩
  | 3 => ⟨S131072, .f32⟩
  | 4 => ⟨S131072, .f32⟩
  | 5 => ⟨S131072, .f32⟩
  | 6 => ⟨S131072, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | _ => ⟨S16x4x8192, .f32⟩

abbrev hbmTy (i : Nat) : BufTy := match i / 128 with
  | 0 => hbmTy0_0 i
  | 1 => hbmTy0_1 i
  | 2 => hbmTy0_2 i
  | _ => ⟨S16x4x8192, .f32⟩

abbrev bufTy : (tb : Table) → Fin (tcTables nBuf tb) → BufTy
  | .hbm, ⟨i, _⟩ => hbmTy i
  | _, _ => ⟨S16x4x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_10 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_11 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_12 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_13 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_14 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_15 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_cst_16 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_cst_17 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_18 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_cst_19 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_cst_20 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_cst_21 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_cst_22 : Ref sig .tc := ⟨.hbm, 221, rfl⟩
abbrev main_v189 : Ref sig .tc := ⟨.hbm, 222, rfl⟩
abbrev main_v190 : Ref sig .tc := ⟨.hbm, 223, rfl⟩
abbrev main_cst_23 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_cst_24 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_cst_25 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_cst_26 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_cst_27 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_cst_28 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_cst_29 : Ref sig .tc := ⟨.hbm, 263, rfl⟩
abbrev main_v224 : Ref sig .tc := ⟨.hbm, 264, rfl⟩
abbrev main_v225 : Ref sig .tc := ⟨.hbm, 265, rfl⟩
abbrev main_cst_30 : Ref sig .tc := ⟨.hbm, 266, rfl⟩
abbrev main_v226 : Ref sig .tc := ⟨.hbm, 267, rfl⟩
abbrev main_cst_31 : Ref sig .tc := ⟨.hbm, 268, rfl⟩
abbrev main_v227 : Ref sig .tc := ⟨.hbm, 269, rfl⟩
abbrev main_v228 : Ref sig .tc := ⟨.hbm, 270, rfl⟩
abbrev main_cst_32 : Ref sig .tc := ⟨.hbm, 271, rfl⟩
abbrev main_v229 : Ref sig .tc := ⟨.hbm, 272, rfl⟩
abbrev main_v230 : Ref sig .tc := ⟨.hbm, 273, rfl⟩

abbrev nD : Nat := 1
abbrev τ : Topo := Topo.v7x

variable {F : FTy → Type} [FloatOps F]
-- ==== Proof.Cases.lean ====
/- Where the body of the focal-loss kernel branches, and the buffers it is handed at a grid point.
   The kernel has eight grid points. It prepares its sums at the first, adds a block's focal terms at every point
   and writes the four results at the last. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Ring
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The body's first test: this is the grid's first point. -/
abbrev isFirst (i : grid0.Coords) : Prop :=
  Scalar.cmpi .ne (Scalar.extui (Scalar.cmpi .eq (BitVec.ofNat 32 (i 0).val) 0#32)) 0#32 = 1#1

/-- The body's second test: this is the grid's last point. -/
abbrev isLast (i : grid0.Coords) : Prop := k0_cond2 i = 1#1

theorem isFirst_iff (t : Fin cfg0.N) : isFirst (grid0.coords t) ↔ t.val = 0 := by
  have ht : t.val < 8 := Nat.lt_of_lt_of_eq t.isLt N_0
  have e0 : (grid0.coords t 0).val = t.val / 1 % 8 := Pipeline.Grid.coords_val t 0 (by decide) rfl
  have h : isFirst (grid0.coords t) ↔ t.val % 8 = 0 := by
    simp only [isFirst, e0]
    word_cmp
  rw [h]; omega

theorem isLast_iff (t : Fin cfg0.N) : isLast (grid0.coords t) ↔ t.val = 7 := by
  have ht : t.val < 8 := Nat.lt_of_lt_of_eq t.isLt N_0
  have e0 : (grid0.coords t 0).val = t.val / 1 % 8 := Pipeline.Grid.coords_val t 0 (by decide) rfl
  have h : isLast (grid0.coords t) ↔ t.val % 8 = 7 := by
    simp only [isLast, k0_cond2, e0]
    word_cmp
  rw [h]; omega

/-- The output's buffer is left alone before the last point, -/
theorem idle_out : ∀ t : Fin cfg0.N, t.val ≠ 7 → cfg0.idle 8 (grid0.coords t) = true := by decide +kernel
/-- its block is not written back there, -/
theorem noFlush_out : ∀ t : Fin cfg0.N, t.val ≠ 7 → (cfg0.win 8).flush t = false := by decide +kernel
/-- and at the last point it is in use. -/
theorem live_out : ∀ t : Fin cfg0.N, t.val = 7 → cfg0.idle 8 (grid0.coords t) = false := by decide +kernel

/-- The scratch that holds the gathered boxes. -/
abbrev boxesRef : Memref sig .tc .vmem S4x16x8192 .f32 := Memref.whole cc0_scratch0
/-- The scratch that holds the mask's, the box term's and the center term's sums, in words 1, 2 and 3. -/
abbrev sumsRef : Memref sig .tc .smem S4 .f32 := Memref.whole cc0_scratch1
/-- The scratch that adds up the focal terms lane by lane. -/
abbrev lanesRef : Memref sig .tc .vmem S1x8192 .f32 := Memref.whole cc0_scratch2

/-- What a region is handed beside its windows: the three scratch buffers and the generator register. -/
theorem rest_eq (c : Dev nD) :
    (Pipeline.ΦA spec0 c : sProp 𝕄)
      = iprop(iprop((∃ d, owns (c : Thread nD τ) boxesRef fullShare d) ∗ (∃ d, owns (c : Thread nD τ) lanesRef fullShare d) ∗ (∃ d, owns (c : Thread nD τ) sumsRef fullShare d)) ∗ (∃ r, prngReg c r)) := by
  unfold Pipeline.ΦA; rw [scopedRest0_eq]; simp only [boxesRef, sumsRef, lanesRef, owns_whole]; try rfl

end Cert.KernelIdeal.Hand

end
-- ==== Proof.Sums.lean ====
/- What one run of the body computes, as plain functions of the blocks it reads. -/
module

public import proofs.«01_k».proof.Proof.Cases
public import Idealize.ShloMosaic.Lib.VecWindow
public import Idealize.ShloMosaic.Lib.Pointwise

@[expose] public section

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F] [Named F]

/-- One image's row of box numbers. -/
def indexRow (x : Vec F S16x8192 .i32) (b : Fin 16) : Vec F S1x8192 .i32 := fun z => x (ix2 b (z 1))
/-- One image's true boxes, side by side. -/
def boxSlab (x : Vec F S16x4x64 .f32) (b : Fin 16) : Vec F S1x4x64 .f32 := fun z => x (ix3 b (z 1) (z 2))
/-- The scratch of gathered boxes: side, image, grid point. -/
def gathered (x4 : Vec F S16x4x64 .f32) (x7 : Vec F S16x8192 .i32) : Vec F S4x16x8192 .f32 :=
  fun y => k0_pay9 (indexRow x7 (y 1)) (boxSlab x4 (y 1)) (ix3 (y 0) 0 (y 2))
/-- One side of the gathered boxes, as it is loaded. -/
def sideSlab (g : Vec F S4x16x8192 .f32) (k : Fin 4) : Vec F S1x16x8192 .f32 := fun z => g (ix3 k (z 1) (z 2))
/-- One coordinate of the grid points. -/
def gridRow (x : Vec F S2x8192 .f32) (k : Fin 2) : Vec F S1x8192 .f32 := fun z => x (ix2 k (z 1))
/-- One component of the predicted boxes. -/
def predRow (x : Vec F S16x4x8192 .f32) (k : Fin 4) : Vec F S16x1x8192 .f32 := fun z => x (ix3 (z 0) k (z 2))

section Loads
variable {κ : Kind} {sp : Space}

theorem load_indexRow (v : View sig κ sp S16x8192 .i32) (f : v.ty.Contents (Elt F)) {b : ℕ}
    (inb : ∀ a, (![b, 0] : Fin S16x8192.rank → ℕ) a + S1x8192.size a ≤ S16x8192.size a) :
    v.readAt (Elt F) (Rect.unit (s := S16x8192) ![b, 0] S1x8192.size inb).toLoadRect f
      = indexRow (v.read (Elt F) f) ⟨b, by have := inb 0; simp at this; omega⟩ := by
  funext z
  refine congrArg (v.read (Elt F) f) (funext fun a => Fin.ext ?_)
  have h0 : (z 0).val < 1 := (z 0).isLt
  fin_cases a
  · show b + 1 * (z 0).val = b; omega
  · show 0 + 1 * (z 1).val = (z 1).val; omega

theorem load_gridRow (v : View sig κ sp S2x8192 .f32) (f : v.ty.Contents (Elt F)) {b : ℕ}
    (inb : ∀ a, (![b, 0] : Fin S2x8192.rank → ℕ) a + S1x8192.size a ≤ S2x8192.size a) :
    v.readAt (Elt F) (Rect.unit (s := S2x8192) ![b, 0] S1x8192.size inb).toLoadRect f
      = gridRow (v.read (Elt F) f) ⟨b, by have := inb 0; simp at this; omega⟩ := by
  funext z
  refine congrArg (v.read (Elt F) f) (funext fun a => Fin.ext ?_)
  have h0 : (z 0).val < 1 := (z 0).isLt
  fin_cases a
  · show b + 1 * (z 0).val = b; omega
  · show 0 + 1 * (z 1).val = (z 1).val; omega

theorem load_boxSlab (v : View sig κ sp S16x4x64 .f32) (f : v.ty.Contents (Elt F)) {b : ℕ}
    (inb : ∀ a, (![b, 0, 0] : Fin S16x4x64.rank → ℕ) a + S1x4x64.size a ≤ S16x4x64.size a) :
    v.readAt (Elt F) (Rect.unit (s := S16x4x64) ![b, 0, 0] S1x4x64.size inb).toLoadRect f
      = boxSlab (v.read (Elt F) f) ⟨b, by have := inb 0; simp at this; omega⟩ := by
  funext z
  refine congrArg (v.read (Elt F) f) (funext fun a => Fin.ext ?_)
  have h0 : (z 0).val < 1 := (z 0).isLt
  fin_cases a
  · show b + 1 * (z 0).val = b; omega
  · show 0 + 1 * (z 1).val = (z 1).val; omega
  · show 0 + 1 * (z 2).val = (z 2).val; omega

theorem load_sideSlab (v : View sig κ sp S4x16x8192 .f32) (f : v.ty.Contents (Elt F)) {b : ℕ}
    (inb : ∀ a, (![b, 0, 0] : Fin S4x16x8192.rank → ℕ) a + S1x16x8192.size a ≤ S4x16x8192.size a) :
    v.readAt (Elt F) (Rect.unit (s := S4x16x8192) ![b, 0, 0] S1x16x8192.size inb).toLoadRect f
      = sideSlab (v.read (Elt F) f) ⟨b, by have := inb 0; simp at this; omega⟩ := by
  funext z
  refine congrArg (v.read (Elt F) f) (funext fun a => Fin.ext ?_)
  have h0 : (z 0).val < 1 := (z 0).isLt
  fin_cases a
  · show b + 1 * (z 0).val = b; omega
  · show 0 + 1 * (z 1).val = (z 1).val; omega
  · show 0 + 1 * (z 2).val = (z 2).val; omega

theorem load_predRow (v : View sig κ sp S16x4x8192 .f32) (f : v.ty.Contents (Elt F)) {b : ℕ}
    (inb : ∀ a, (![0, b, 0] : Fin S16x4x8192.rank → ℕ) a + S16x1x8192.size a ≤ S16x4x8192.size a) :
    v.readAt (Elt F) (Rect.unit (s := S16x4x8192) ![0, b, 0] S16x1x8192.size inb).toLoadRect f
      = predRow (v.read (Elt F) f) ⟨b, by have := inb 1; simp at this; omega⟩ := by
  funext z
  refine congrArg (v.read (Elt F) f) (funext fun a => Fin.ext ?_)
  have h0 : (z 1).val < 1 := (z 1).isLt
  fin_cases a
  · show 0 + 1 * (z 0).val = (z 0).val; omega
  · show b + 1 * (z 1).val = b; omega
  · show 0 + 1 * (z 2).val = (z 2).val; omega

end Loads

/-- What the body stores for one image is that image's part of the gathered boxes. -/
theorem gathered_piece (x4 : Vec F S16x4x64 .f32) (x7 : Vec F S16x8192 .i32) {b : ℕ}
    (inb : ∀ a, (![0, b, 0] : Fin S4x16x8192.rank → ℕ) a + S4x1x8192.size a ≤ S4x16x8192.size a) (hb : b < 16)
    (x : (Rect.unit (s := S4x16x8192) ![0, b, 0] S4x1x8192.size inb).shape.Idx) :
    k0_pay9 (indexRow x7 ⟨b, hb⟩) (boxSlab x4 ⟨b, hb⟩) x
      = gathered x4 x7 ((Rect.unit (s := S4x16x8192) ![0, b, 0] S4x1x8192.size inb).emb x) := by
  have h1 : (x 1).val < 1 := (x 1).isLt
  have e : (Rect.unit (s := S4x16x8192) ![0, b, 0] S4x1x8192.size inb).emb x = (ix3 (x 0) ⟨b, hb⟩ (x 2) : S4x16x8192.Idx) := by
    funext a; apply Fin.ext
    fin_cases a
    · show 0 + 1 * (x 0).val = (x 0).val; omega
    · show b + 1 * (x 1).val = b; omega
    · show 0 + 1 * (x 2).val = (x 2).val; omega
  have e' : x = (ix3 (x 0) 0 (x 2) : S4x1x8192.Idx) := by
    funext a; apply Fin.ext
    fin_cases a
    · rfl
    · show (x 1).val = 0; omega
    · rfl
  rw [e]
  show _ = k0_pay9 (indexRow x7 ⟨b, hb⟩) (boxSlab x4 ⟨b, hb⟩) (ix3 (x 0) 0 (x 2) : S4x1x8192.Idx)
  exact congrArg (k0_pay9 (indexRow x7 ⟨b, hb⟩) (boxSlab x4 ⟨b, hb⟩)) e'

/-- The number of points in the mask. -/
def sumMask (x6 : Vec F S16x8192 .f32) : F .f32 := k0_pay1 (k0_pay53 (k0_pay41 x6))

/-- The masked sum of the center terms, from the gathered boxes `g`. -/
def sumCenter (g : Vec F S4x16x8192 .f32) (x3 : Vec F S16x1x8192 .f32) (x5 : Vec F S2x8192 .f32) (x6 : Vec F S16x8192 .f32) : F .f32 :=
  k0_pay42 (k0_pay34 (sideSlab g 0)) (k0_pay35 (sideSlab g 1)) (k0_pay36 (sideSlab g 2)) (k0_pay37 (sideSlab g 3))
    (gridRow x5 0) (gridRow x5 1) x6 x3

/-- The masked sum of the box terms, from the gathered boxes `g`. -/
def sumBoxes (g : Vec F S4x16x8192 .f32) (x2 : Vec F S16x4x8192 .f32) (x5 : Vec F S2x8192 .f32) (x6 : Vec F S16x8192 .f32) : F .f32 :=
  k0_pay52 (k0_pay34 (sideSlab g 0)) (k0_pay35 (sideSlab g 1)) (k0_pay36 (sideSlab g 2)) (k0_pay37 (sideSlab g 3))
    (k0_pay40 (k0_pay34 (sideSlab g 0)) (k0_pay35 (sideSlab g 1)) (k0_pay36 (sideSlab g 2)) (k0_pay37 (sideSlab g 3)) (gridRow x5 0) (gridRow x5 1))
    (k0_pay41 x6)
    (k0_pay47 (k0_pay38 (gridRow x5 0)) (predRow x2 0) (predRow x2 2))
    (k0_pay48 (k0_pay39 (gridRow x5 1)) (predRow x2 1) (predRow x2 3))
    (k0_pay49 (k0_pay38 (gridRow x5 0)) (predRow x2 0) (predRow x2 2))
    (k0_pay50 (k0_pay39 (gridRow x5 1)) (predRow x2 1) (predRow x2 3))
    (k0_pay51 (k0_pay34 (sideSlab g 0)) (k0_pay38 (gridRow x5 0)) (predRow x2 0) (predRow x2 2))

/-- The three words the first point stores. -/
def Sums (x2 : Vec F S16x4x8192 .f32) (x3 : Vec F S16x1x8192 .f32) (x4 : Vec F S16x4x64 .f32) (x5 : Vec F S2x8192 .f32)
    (x6 : Vec F S16x8192 .f32) (x7 : Vec F S16x8192 .i32) (w : Vec F S4 .f32) : Prop :=
  w (ix1 1) = sumMask x6 ∧ w (ix1 2) = sumBoxes (gathered x4 x7) x2 x5 x6 ∧ w (ix1 3) = sumCenter (gathered x4 x7) x3 x5 x6

/-- The four words the last point writes, from the words of `w` and the lane sums `a`. -/
def results (w : Vec F S4 .f32) (a : Vec F S1x8192 .f32) : Vec F S4 .f32 :=
  fun y => if (y 0).val = 3 then k0_pay7 (w (ix1 1)) (w (ix1 3))
    else if (y 0).val = 2 then k0_pay6 (w (ix1 1)) (w (ix1 2))
    else if (y 0).val = 1 then k0_pay5 (w (ix1 1)) a
    else k0_pay8 (w (ix1 1)) a (w (ix1 2)) (w (ix1 3))

end Cert.KernelIdeal.Hand

end
-- ==== Proof.BodyFirst.lean ====
/- The first grid point: it gathers the true boxes, sums the box terms, the center terms and the mask, clears the
   lane sums and adds its block's focal terms. -/
module

public import Idealize.ShloMosaic.Lib.CellWrites
public import proofs.«01_k».proof.Proof.Sums

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S160x8192 .f32) (harg1 : arg1.IsWhole)
  (arg2 : Memref sig .tc .vmem S160x8192 .f32) (harg2 : arg2.IsWhole)
  (arg3 : Memref sig .tc .vmem S16x4x8192 .f32) (harg3 : arg3.IsWhole)
  (arg4 : Memref sig .tc .vmem S16x1x8192 .f32) (harg4 : arg4.IsWhole)
  (arg5 : Memref sig .tc .vmem S16x4x64 .f32) (harg5 : arg5.IsWhole)
  (arg6 : Memref sig .tc .vmem S2x8192 .f32) (harg6 : arg6.IsWhole)
  (arg7 : Memref sig .tc .vmem S16x8192 .f32) (harg7 : arg7.IsWhole)
  (arg8 : Memref sig .tc .vmem S16x8192 .i32) (harg8 : arg8.IsWhole)
  (arg9 : Memref sig .tc .smem S4 .f32) (harg9 : arg9.IsWhole)
  (arg10 : Memref sig .tc .vmem S4x16x8192 .f32) (harg10 : arg10.IsWhole)
  (arg11 : Memref sig .tc .smem S4 .f32) (harg11 : arg11.IsWhole)
  (arg12 : Memref sig .tc .vmem S1x8192 .f32) (harg12 : arg12.IsWhole)
  (x0 : Vec F S160x8192 .f32) (x1 : Vec F S160x8192 .f32) (x2 : Vec F S16x4x8192 .f32) (x3 : Vec F S16x1x8192 .f32) (x4 : Vec F S16x4x64 .f32) (x5 : Vec F S2x8192 .f32) (x6 : Vec F S16x8192 .f32) (x7 : Vec F S16x8192 .i32)

set_option maxHeartbeats 2000000 in
/-- The body at the first point. -/
theorem body_first (h0 : isFirst i) (h1 : ¬isLast i) (y : Vec F S4 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y
        ∗ (∃ d, owns (c : Thread nD τ) arg10 fullShare d) ∗ (∃ w, ⌜Sums x2 x3 x4 x5 x6 x7 w⌝ ∗ owns (c : Thread nD τ) arg11 fullShare w) ∗ owns (c : Thread nD τ) arg12 fullShare (k0_pay3 x0 x1 k0_pay2)) -∗ K ⟨⟩))
      ⊢ wp frame (wpE (defs₀ (F := F)) Variants.none c none) E (cc0__loss_kernel i arg1 harg1 arg2 harg2 arg3 harg3 arg4 harg4 arg5 harg5 arg6 harg6 arg7 harg7 arg8 harg8 arg9 harg9 arg10 harg10 arg11 harg11 arg12 harg12) K := by
  simp only [cc0__loss_kernel_eq_skeleton]; unfold cc0__loss_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact hf8
    iexact H8
  isplitl [HS0]
  · iexists _; iexists _; isplitr; swap; · iexact HS0
    ipureintro; exact rfl
  isplitl [HS1]
  · iexists _; isplitr; swap
    · iexists _; isplitr; swap; · iexact HS1
      ipureintro; exact rfl
    ipureintro
    have hg : ∀ f, View.read (Elt F) arg10.view (arg10.view.writes (Elt F) f (body_first.sl.HS0_16 c arg5 harg5 arg8 harg8 x4 x7)) = gathered x4 x7 := by
      intro f; funext y
      clear * -
      delta body_first.sl.HS0_16 body_first.sl.r body_first.sl.r_1 body_first.sl.r_2 body_first.sl.r_3 body_first.sl.r_4 body_first.sl.r_5 body_first.sl.v119
      refine View.read_writes_apply_of_pieces _ _ (gathered x4 x7) _ ?_ y ?_
      · iterate 16
          refine List.forall_mem_cons.mpr ⟨?_, ?_⟩
          · intro x
            rw [load_indexRow, load_boxSlab, harg5.read_unread, harg8.read_unread]
            exact gathered_piece x4 x7 (by decide) (by decide) x
        exact fun _ h => absurd h List.not_mem_nil
      · exact View.cover_of_tiled _ ![4, 1, 8192] rfl y
    clear * - hg
    delta body_first.sl.r_14 body_first.sl.r_20 body_first.sl.r_21 body_first.sl.r_12 body_first.sl.r_15 body_first.sl.r_16 body_first.sl.r_17 body_first.sl.r_18 body_first.sl.r_19 body_first.sl.r_6 body_first.sl.r_7 body_first.sl.r_8 body_first.sl.r_9 body_first.sl.r_10 body_first.sl.r_11 body_first.sl.r_13
    have e0 : body_first.sl.v236 c arg5 harg5 arg8 harg8 arg10 x4 x7 = sideSlab (gathered x4 x7) 0 := by
      delta body_first.sl.v236 View.readCov; rw [load_sideSlab, hg]; rfl
    have e1 : body_first.sl.v238 c arg5 harg5 arg8 harg8 arg10 x4 x7 = sideSlab (gathered x4 x7) 1 := by
      delta body_first.sl.v238 View.readCov; rw [load_sideSlab, hg]; rfl
    have e2 : body_first.sl.v240 c arg5 harg5 arg8 harg8 arg10 x4 x7 = sideSlab (gathered x4 x7) 2 := by
      delta body_first.sl.v240 View.readCov; rw [load_sideSlab, hg]; rfl
    have e3 : body_first.sl.v242 c arg5 harg5 arg8 harg8 arg10 x4 x7 = sideSlab (gathered x4 x7) 3 := by
      delta body_first.sl.v242 View.readCov; rw [load_sideSlab, hg]; rfl
    rw [e0, e1, e2, e3]
    clear e0 e1 e2 e3 hg
    refine ⟨?_, ?_, ?_⟩
    · rw [View.read_writes_cons_cell, View.read_writes_cons_cell, View.read_writes_cons_cell]
      rw [View.readAt_full arg7.view]
      rw [harg7.read_unread]
      rfl
    · rw [View.read_writes_cons_cell, View.read_writes_cons_cell]
      rw [if_neg (by decide), if_pos (by decide)]
      repeat rw [load_predRow]
      repeat rw [load_gridRow]
      rw [View.readAt_full arg7.view]
      rw [harg7.read_unread, harg3.read_unread, harg6.read_unread]
      rfl
    · rw [View.read_writes_cons_cell]
      rw [if_pos (by decide)]
      repeat rw [load_gridRow]
      rw [View.readAt_full arg7.view]
      rw [View.readAt_full arg4.view]
      rw [harg7.read_unread, harg4.read_unread, harg6.read_unread]
      rfl
  iexists _; isplitr; swap; · iexact HS2
  · ipureintro
    rw [View.read_writes_full, View.readAt_full, View.readAt_full, harg1.read_unread, harg2.read_unread]
    delta body_first.sl.v19 body_first.sl.HS2_1
    rw [View.readCov_full]

end Cert.KernelIdeal.Hand

end
-- ==== Proof.BodyMiddle.lean ====
/- A grid point that is neither first nor last: it adds its block's focal terms to the lane sums. -/
module

public import Idealize.ShloMosaic.Lib.CellWrites
public import proofs.«01_k».proof.Proof.Sums

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S160x8192 .f32) (harg1 : arg1.IsWhole)
  (arg2 : Memref sig .tc .vmem S160x8192 .f32) (harg2 : arg2.IsWhole)
  (arg3 : Memref sig .tc .vmem S16x4x8192 .f32) (harg3 : arg3.IsWhole)
  (arg4 : Memref sig .tc .vmem S16x1x8192 .f32) (harg4 : arg4.IsWhole)
  (arg5 : Memref sig .tc .vmem S16x4x64 .f32) (harg5 : arg5.IsWhole)
  (arg6 : Memref sig .tc .vmem S2x8192 .f32) (harg6 : arg6.IsWhole)
  (arg7 : Memref sig .tc .vmem S16x8192 .f32) (harg7 : arg7.IsWhole)
  (arg8 : Memref sig .tc .vmem S16x8192 .i32) (harg8 : arg8.IsWhole)
  (arg9 : Memref sig .tc .smem S4 .f32) (harg9 : arg9.IsWhole)
  (arg10 : Memref sig .tc .vmem S4x16x8192 .f32) (harg10 : arg10.IsWhole)
  (arg11 : Memref sig .tc .smem S4 .f32) (harg11 : arg11.IsWhole)
  (arg12 : Memref sig .tc .vmem S1x8192 .f32) (harg12 : arg12.IsWhole)
  (x0 : Vec F S160x8192 .f32) (x1 : Vec F S160x8192 .f32) (x2 : Vec F S16x4x8192 .f32) (x3 : Vec F S16x1x8192 .f32) (x4 : Vec F S16x4x64 .f32) (x5 : Vec F S2x8192 .f32) (x6 : Vec F S16x8192 .f32) (x7 : Vec F S16x8192 .i32)

set_option maxHeartbeats 1000000 in
/-- The body at such a point changes the lane sums alone. -/
theorem body_middle (h0 : ¬isFirst i) (h1 : ¬isLast i) (y : Vec F S4 .f32) (w : Vec F S4 .f32) (a : Vec F S1x8192 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y
        ∗ (∃ d, owns (c : Thread nD τ) arg10 fullShare d) ∗ owns (c : Thread nD τ) arg11 fullShare w ∗ owns (c : Thread nD τ) arg12 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y
        ∗ (∃ d, owns (c : Thread nD τ) arg10 fullShare d) ∗ owns (c : Thread nD τ) arg11 fullShare w ∗ owns (c : Thread nD τ) arg12 fullShare (k0_pay3 x0 x1 a)) -∗ K ⟨⟩))
      ⊢ wp frame (wpE (defs₀ (F := F)) Variants.none c none) E (cc0__loss_kernel i arg1 harg1 arg2 harg2 arg3 harg3 arg4 harg4 arg5 harg5 arg6 harg6 arg7 harg7 arg8 harg8 arg9 harg9 arg10 harg10 arg11 harg11 arg12 harg12) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HS0, HS1, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs2
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact hf8
    iexact H8
  isplitl [HS0]; · iexact HS0
  isplitl [HS1]; · iexact HS1
  iexists _; isplitr; swap; · iexact HS2
  · ipureintro
    rw [View.read_writes_full, View.readAt_full, View.readAt_full, View.readAt_full, harg1.read_unread, harg2.read_unread, harg12.read_unread]

end Cert.KernelIdeal.Hand

end
-- ==== Proof.BodyLast.lean ====
/- The last grid point: it adds its block's focal terms and writes the four results. -/
module

public import Idealize.ShloMosaic.Lib.CellWrites
public import proofs.«01_k».proof.Proof.Sums

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S160x8192 .f32) (harg1 : arg1.IsWhole)
  (arg2 : Memref sig .tc .vmem S160x8192 .f32) (harg2 : arg2.IsWhole)
  (arg3 : Memref sig .tc .vmem S16x4x8192 .f32) (harg3 : arg3.IsWhole)
  (arg4 : Memref sig .tc .vmem S16x1x8192 .f32) (harg4 : arg4.IsWhole)
  (arg5 : Memref sig .tc .vmem S16x4x64 .f32) (harg5 : arg5.IsWhole)
  (arg6 : Memref sig .tc .vmem S2x8192 .f32) (harg6 : arg6.IsWhole)
  (arg7 : Memref sig .tc .vmem S16x8192 .f32) (harg7 : arg7.IsWhole)
  (arg8 : Memref sig .tc .vmem S16x8192 .i32) (harg8 : arg8.IsWhole)
  (arg9 : Memref sig .tc .smem S4 .f32) (harg9 : arg9.IsWhole)
  (arg10 : Memref sig .tc .vmem S4x16x8192 .f32) (harg10 : arg10.IsWhole)
  (arg11 : Memref sig .tc .smem S4 .f32) (harg11 : arg11.IsWhole)
  (arg12 : Memref sig .tc .vmem S1x8192 .f32) (harg12 : arg12.IsWhole)
  (x0 : Vec F S160x8192 .f32) (x1 : Vec F S160x8192 .f32) (x2 : Vec F S16x4x8192 .f32) (x3 : Vec F S16x1x8192 .f32) (x4 : Vec F S16x4x64 .f32) (x5 : Vec F S2x8192 .f32) (x6 : Vec F S16x8192 .f32) (x7 : Vec F S16x8192 .i32)

set_option maxHeartbeats 1000000 in
/-- The body at the last point. -/
theorem body_last (h0 : ¬isFirst i) (h1 : isLast i) (w : Vec F S4 .f32) (a : Vec F S1x8192 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (∃ d, owns (c : Thread nD τ) arg10 fullShare d) ∗ owns (c : Thread nD τ) arg11 fullShare w ∗ owns (c : Thread nD τ) arg12 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (results w (k0_pay3 x0 x1 a))
        ∗ (∃ d, owns (c : Thread nD τ) arg10 fullShare d) ∗ owns (c : Thread nD τ) arg11 fullShare w ∗ owns (c : Thread nD τ) arg12 fullShare (k0_pay3 x0 x1 a)) -∗ K ⟨⟩))
      ⊢ wp frame (wpE (defs₀ (F := F)) Variants.none c none) E (cc0__loss_kernel i arg1 harg1 arg2 harg2 arg3 harg3 arg4 harg4 arg5 harg5 arg6 harg6 arg7 harg7 arg8 harg8 arg9 harg9 arg10 harg10 arg11 harg11 arg12 harg12) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HS0, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs1; obtain rfl := harg12.eq_unread hfs2
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    have e1 : body_last.sl.r c arg11 harg11 w = w (ix1 1) := by
      delta body_last.sl.r
      exact (congrFun (harg11.read_unread w) _).trans (congrArg w (by funext a; apply Fin.ext; fin_cases a; rfl))
    have e2 : body_last.sl.r_1 c arg11 harg11 w = w (ix1 2) := by
      delta body_last.sl.r_1
      exact (congrFun (harg11.read_unread w) _).trans (congrArg w (by funext a; apply Fin.ext; fin_cases a; rfl))
    have e3 : body_last.sl.r_2 c arg11 harg11 w = w (ix1 3) := by
      delta body_last.sl.r_2
      exact (congrFun (harg11.read_unread w) _).trans (congrArg w (by funext a; apply Fin.ext; fin_cases a; rfl))
    have e4 : body_last.sl.v30 c arg1 harg1 arg2 harg2 arg12 harg12 x0 x1 a = k0_pay3 x0 x1 a := by
      delta body_last.sl.v30 body_last.sl.HS2_1
      rw [View.readCov_full, View.readAt_full, View.readAt_full, View.readAt_full, harg1.read_unread, harg2.read_unread, harg12.read_unread]
    rw [e1, e2, e3, e4]
    funext y
    rw [View.read_writes_cons_cell, View.read_writes_cons_cell, View.read_writes_cons_cell, View.read_writes_cons_cell]
    show (if (y 0).val = 3 then _ else if (y 0).val = 2 then _ else if (y 0).val = 1 then _ else if (y 0).val = 0 then _ else _) = _
    unfold results
    have hy : (y 0).val < 4 := (y 0).isLt
    by_cases h3 : (y 0).val = 3
    · rw [if_pos h3, if_pos h3]
    rw [if_neg h3, if_neg h3]
    by_cases h2 : (y 0).val = 2
    · rw [if_pos h2, if_pos h2]
    rw [if_neg h2, if_neg h2]
    by_cases h1 : (y 0).val = 1
    · rw [if_pos h1, if_pos h1]
    rw [if_neg h1, if_neg h1, if_pos (by omega)]
  isplitl [HS0]; · iexact HS0
  isplitl [HS1]
  · iexists _; isplitr; · ipureintro; exact harg11.read_unread _
    iexact HS1
  iexists _; isplitr; swap; · iexact HS2
  · ipureintro
    delta body_last.sl.HS2_1
    rw [View.read_writes_full, View.readAt_full, View.readAt_full, View.readAt_full, harg1.read_unread, harg2.read_unread, harg12.read_unread]

end Cert.KernelIdeal.Hand

end
-- ==== Proof.Region.lean ====
/- The eight grid points in a row: what the carried scratch holds after each of them, and the run of the whole program. -/
module

public import proofs.«01_k».proof.Proof.BodyFirst
public import proofs.«01_k».proof.Proof.BodyMiddle
public import proofs.«01_k».proof.Proof.BodyLast
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first grid point. -/
def startPt : Fin cfg0.N := ⟨0, by decide⟩
/-- The last grid point. -/
def lastPt : Fin cfg0.N := ⟨7, by decide⟩

/-- The lane sums after a grid point. -/
def lanes (c : Dev nD) : (n : ℕ) → n < cfg0.N → Vec F S1x8192 .f32
  | 0, h => k0_pay3 (iblk m c 0 ⟨0, h⟩) (iblk m c 1 ⟨0, h⟩) k0_pay2
  | n + 1, h => k0_pay3 (iblk m c 0 ⟨n + 1, h⟩) (iblk m c 1 ⟨n + 1, h⟩) (lanes c n (Nat.lt_of_succ_lt h))

/-- The three sums as the first point's blocks give them. -/
def SumsAt (c : Dev nD) (w : Vec F S4 .f32) : Prop :=
  Sums (iblk m c 2 startPt) (iblk m c 3 startPt) (iblk m c 4 startPt) (iblk m c 5 startPt) (iblk m c 6 startPt) (iblk m c 7 startPt) w

/-- A list of words with the three sums in it. -/
def words (c : Dev nD) : Vec F S4 .f32 := fun y =>
  if (y 0).val = 3 then sumCenter (gathered (iblk m c 4 startPt) (iblk m c 7 startPt)) (iblk m c 3 startPt) (iblk m c 5 startPt) (iblk m c 6 startPt)
  else if (y 0).val = 2 then sumBoxes (gathered (iblk m c 4 startPt) (iblk m c 7 startPt)) (iblk m c 2 startPt) (iblk m c 5 startPt) (iblk m c 6 startPt)
  else sumMask (iblk m c 6 startPt)

/-- What the last point writes depends on the three sums alone. -/
theorem results_eq (c : Dev nD) (w : Vec F S4 .f32) (h : SumsAt m c w) (a : Vec F S1x8192 .f32) : results w a = results (words m c) a := by
  have h1 : w (ix1 1) = words m c (ix1 1) := h.1
  have h2 : w (ix1 2) = words m c (ix1 2) := h.2.1
  have h3 : w (ix1 3) = words m c (ix1 3) := h.2.2
  unfold results
  rw [h1, h2, h3]

/-- The invariant: nothing is known before the first point; after a point, the lane sums and the three sums. -/
def inv (c : Dev nD) : (n : ℕ) → n ≤ cfg0.N → sProp 𝕄
  | 0, _ => Pipeline.ΦA spec0 c
  | n + 1, h => iprop(iprop((∃ d, owns (c : Thread nD τ) boxesRef fullShare d) ∗ owns (c : Thread nD τ) lanesRef fullShare (lanes m c n h)
      ∗ (∃ w, ⌜SumsAt m c w⌝ ∗ owns (c : Thread nD τ) sumsRef fullShare w)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (h : n + 1 ≤ cfg0.N) :
    inv m c (n + 1) h = iprop(iprop((∃ d, owns (c : Thread nD τ) boxesRef fullShare d) ∗ owns (c : Thread nD τ) lanesRef fullShare (lanes m c n h)
      ∗ (∃ w, ⌜SumsAt m c w⌝ ∗ owns (c : Thread nD τ) sumsRef fullShare w)) ∗ (∃ r, prngReg c r)) := rfl

/-- The proof data: each window's block, the results at the output window, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => results (words m c) (lanes m c t.val t.isLt)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = results (words m c) (lanes m c t.val t.isLt) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (win0_7.stage (cfg0.slots t 7)) fullShare (iblk m c 7 t) := by
  unfold Dat.leavesExact; rw [show cfg0.idle 7 (grid0.coords t) = false from rfl, after_7]
theorem leaves_8 (c : Dev nD) (t : Fin cfg0.N) (h : t.val = 7) : (dats m 0 c).leavesExact 8 t = owns (c : Thread nD τ) (win0_8.stage (cfg0.slots t 8)) fullShare (results (words m c) (lanes m c t.val t.isLt)) := by
  unfold Dat.leavesExact; rw [live_out t h, after_8]

/-- What the body starts from at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem lanes_zero (c : Dev nD) (t : Fin cfg0.N) (h : t.val = 0) : lanes m c t.val t.isLt = k0_pay3 (iblk m c 0 t) (iblk m c 1 t) k0_pay2 := by
  obtain ⟨n, hn⟩ := t; dsimp only at h; subst h; rfl

theorem lanes_pos (c : Dev nD) (t : Fin cfg0.N) (h : t.val ≠ 0) :
    lanes m c t.val t.isLt = k0_pay3 (iblk m c 0 t) (iblk m c 1 t) (lanes m c (t.val - 1) (Nat.lt_of_le_of_lt (Nat.sub_le _ _) t.isLt)) := by
  obtain ⟨n, hn⟩ := t
  cases n with
  | zero => exact absurd rfl h
  | succ n => rfl

theorem inv_pos (c : Dev nD) (t : Fin cfg0.N) (h : t.val ≠ 0) :
    inv m c t.val (Nat.le_of_lt t.isLt) = iprop(iprop((∃ d, owns (c : Thread nD τ) boxesRef fullShare d)
      ∗ owns (c : Thread nD τ) lanesRef fullShare (lanes m c (t.val - 1) (Nat.lt_of_le_of_lt (Nat.sub_le _ _) t.isLt))
      ∗ (∃ w, ⌜SumsAt m c w⌝ ∗ owns (c : Thread nD τ) sumsRef fullShare w)) ∗ (∃ r, prngReg c r)) := by
  obtain ⟨n, hn⟩ := t
  cases n with
  | zero => exact absurd rfl h
  | succ n => rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = inv m c (t.val + 1) t.isLt from rfl, inv_succ, inv_castSucc m c t]
  rw [leaves_0, leaves_1, leaves_2, leaves_3, leaves_4, leaves_5, leaves_6, leaves_7]
  have hN : t.val < 8 := lt_of_lt_of_eq t.isLt (show cfg0.N = 8 from N_0)
  by_cases h0 : t.val = 0
  · have hl : t.val ≠ 7 := by omega
    rw [Dat.leavesExact_idle (dats m 0 c) 8 t (idle_out t hl) (noFlush_out t hl), inv_zero m c _ _ h0, rest_eq, lanes_zero m c t h0]
    iintro ⟨⟨⟨HS0, HS2, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((isFirst_iff t).mpr h0) (fun h => hl ((isLast_iff t).mp h)) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, HS0, ⟨%w, %hw, HS1⟩, HS2⟩
    isplitl [HS0 HS2 HS1 Hg]
    · isplitl [HS0 HS2 HS1]
      · isplitl [HS0]; · iexact HS0
        isplitl [HS2]; · iexact HS2
        iexists w; isplitr; swap; · iexact HS1
        ipureintro
        have ht : t = startPt := Fin.ext h0
        subst ht; exact hw
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  rw [inv_pos m c t h0, lanes_pos m c t h0]
  by_cases hl : t.val = 7
  · rw [leaves_8 m c t hl, lanes_pos m c t h0]
    iintro ⟨⟨⟨HS0, HS2, ⟨%w, %hw, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [← results_eq m c w hw]
    iapply (body_last c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((isFirst_iff t).mp h)) ((isLast_iff t).mpr hl) w _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS2 HS1 Hg]
    · isplitl [HS0 HS2 HS1]
      · isplitl [HS0]; · iexact HS0
        isplitl [HS2]; · iexact HS2
        iexists w; isplitr; swap; · iexact HS1
        ipureintro; exact hw
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dats m 0 c) 8 t (idle_out t hl) (noFlush_out t hl)]
    iintro ⟨⟨⟨HS0, HS2, ⟨%w, %hw, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_middle c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((isFirst_iff t).mp h)) (fun h => hl ((isLast_iff t).mp h)) _ w _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS2 HS1 Hg]
    · isplitl [HS0 HS2 HS1]
      · isplitl [HS0]; · iexact HS0
        isplitl [HS2]; · iexact HS2
        iexists w; isplitr; swap; · iexact HS1
        ipureintro; exact hw
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the region is handed is the invariant before the first point, -/
theorem inv_in (c : Dev nD) : Pipeline.ΦA spec0 c ⊢ (dats m 0 c).Φ 0 := by
  rw [show (dats m 0 c).Φ 0 = inv m c 0 (Nat.zero_le _) from rfl, inv_zero m c 0 _ rfl]

/-- and the invariant after the last point gives it back. -/
theorem inv_out (c : Dev nD) : (dats m 0 c).Φ (Fin.last cfg0.N) ⊢ Pipeline.ΦA spec0 c := by
  rw [show (dats m 0 c).Φ (Fin.last cfg0.N) = inv m c (7 + 1) (by decide) from rfl, inv_succ, rest_eq]
  iintro ⟨⟨HS0, HS2, ⟨%w, -, HS1⟩⟩, Hg⟩
  isplitl [HS0 HS2 HS1]
  · isplitl [HS0]
    · iexact HS0
    isplitl [HS2]
    · iexists _; iexact HS2
    iexists _; iexact HS1
  iexact Hg

set_option backward.isDefEq.respectTransparency.types false in
set_option maxHeartbeats 800000 in
/-- The run: every weakly fair execution ends, the arrays hold what the proof data says, the host lines after the
    region have run, and every semaphore counter is zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

end Cert.KernelIdeal.Hand

end
-- ==== Proof.KernelArrays.lean ====
/- What the kernel's windows show of the arguments, place by place. -/
module

public import proofs.«01_k».proof.Proof.Region
public import Idealize.ShloMosaic.Lib.Pointwise
public import Idealize.ShloMosaic.Lib.Pipeline.ValueKit
public import Idealize.ShloMosaic.Lib.StableHlo.RunRead

@[expose] public section

set_option maxRecDepth 16384

noncomputable section

namespace Cert.KernelIdeal.Hand

open Idealize.ShloMosaic Idealize.ShloMosaic.TcCoe Idealize.ShloMosaic.Tactic
open Idealize.ShloMosaic.Pipeline (Dat Cfg Window)
open Cert.KernelIdeal Cert.KernelIdeal.Gen

variable (m : (ℓ : Loc nD τ sig) → Buf (Elt Ideal) ℓ)

/-- Row blocks move down by one a step; the other blocks stay. -/
theorem steps : ∀ t : Fin cfg0.N, win0_0.index t 0 = t.val ∧ win0_0.index t 1 = 0 ∧ win0_1.index t 0 = t.val ∧ win0_1.index t 1 = 0 := by
  decide +kernel

theorem points (t : Fin cfg0.N) : t.val < 8 := lt_of_lt_of_eq t.isLt (show cfg0.N = 8 from N_0)

/-- At the first step every other block starts at its array's corner. -/
theorem start_2 : win0_2.index startPt 0 = 0 ∧ win0_2.index startPt 1 = 0 ∧ win0_2.index startPt 2 = 0 := by decide +kernel
theorem start_3 : win0_3.index startPt 0 = 0 ∧ win0_3.index startPt 1 = 0 ∧ win0_3.index startPt 2 = 0 := by decide +kernel
theorem start_4 : win0_4.index startPt 0 = 0 ∧ win0_4.index startPt 1 = 0 ∧ win0_4.index startPt 2 = 0 := by decide +kernel
theorem start_5 : win0_5.index startPt 0 = 0 ∧ win0_5.index startPt 1 = 0 := by decide +kernel
theorem start_6 : win0_6.index startPt 0 = 0 ∧ win0_6.index startPt 1 = 0 := by decide +kernel
theorem start_7 : win0_7.index startPt 0 = 0 ∧ win0_7.index startPt 1 = 0 := by decide +kernel

/-- The arrays the host prepares. -/
theorem rows_of_logits (c : Dev nD) : (V m c main_v0 : Vec Ideal S1280x8192 .f32)
    = shapeCast S1280x8192 (m ((c : Thread nD τ).loc main_arg1) : Vec Ideal S16x80x8192 .f32) shapeCasts_S16x80x8192_S1280x8192 := by
  after_reads_simp; rfl
theorem rows_of_targets (c : Dev nD) : (V m c main_v1 : Vec Ideal S1280x8192 .f32)
    = shapeCast S1280x8192 (m ((c : Thread nD τ).loc main_arg5) : Vec Ideal S16x80x8192 .f32) shapeCasts_S16x80x8192_S1280x8192 := by
  after_reads_simp; rfl
theorem turned_boxes (c : Dev nD) : (V m c main_v2 : Vec Ideal S16x4x64 .f32)
    = transpose S16x4x64 [0, 2, 1] (m ((c : Thread nD τ).loc main_arg3) : Vec Ideal S16x64x4 .f32) transposes_S16x64x4_S16x4x64_0_2_1 := by
  after_reads_simp
theorem turned_grid (c : Dev nD) : (V m c main_v3 : Vec Ideal S2x8192 .f32)
    = transpose S2x8192 [1, 0] (m ((c : Thread nD τ).loc main_arg4) : Vec Ideal S8192x2 .f32) transposes_S8192x2_S2x8192_1_0 := by
  after_reads_simp
theorem float_mask (c : Dev nD) : (V m c main_v4 : Vec Ideal S16x8192 .f32)
    = uitofp (F := Ideal) .f32 (show IVec S16x8192 1 from m ((c : Thread nD τ).loc main_arg6)) := by
  after_reads_simp

/-- A row of a flattened array of eighty rows an image. -/
theorem row_at (x : Vec Ideal S16x80x8192 .f32) (R : Fin 1280) (l : Fin 8192) :
    (shapeCast S1280x8192 x shapeCasts_S16x80x8192_S1280x8192 (ix2 R l) : EReal) = x (ix3 ⟨R.val / 80, by omega⟩ ⟨R.val % 80, by omega⟩ l) := by
  pointwise []

/-- The logits' block of a step. -/
theorem logits_at (c : Dev nD) (t : Fin cfg0.N) (r : Fin 160) (l : Fin 8192) :
    (iblk m c 0 t (ix2 r l) : EReal) = m ((c : Thread nD τ).loc main_arg1)
      (ix3 ⟨(t.val * 160 + r.val) / 80, by have := points t; omega⟩ ⟨(t.val * 160 + r.val) % 80, by omega⟩ l) := by
  have ht := points t
  have e : (iblk m c 0 t (ix2 r l) : EReal) = (V m c main_v0 : Vec Ideal S1280x8192 .f32) (ix2 ⟨t.val * 160 + r.val, by omega⟩ l) := by
    blk_ext [iblk, steps t]
  rw [e, rows_of_logits, row_at]

/-- The targets' block of a step. -/
theorem targets_at (c : Dev nD) (t : Fin cfg0.N) (r : Fin 160) (l : Fin 8192) :
    (iblk m c 1 t (ix2 r l) : EReal) = m ((c : Thread nD τ).loc main_arg5)
      (ix3 ⟨(t.val * 160 + r.val) / 80, by have := points t; omega⟩ ⟨(t.val * 160 + r.val) % 80, by omega⟩ l) := by
  have ht := points t
  have e : (iblk m c 1 t (ix2 r l) : EReal) = (V m c main_v1 : Vec Ideal S1280x8192 .f32) (ix2 ⟨t.val * 160 + r.val, by omega⟩ l) := by
    blk_ext [iblk, steps t]
  rw [e, rows_of_targets, row_at]

theorem pred_at (c : Dev nD) (b : Fin 16) (k : Fin 4) (p : Fin 8192) :
    (iblk m c 2 startPt (ix3 b k p) : EReal) = m ((c : Thread nD τ).loc main_arg0) (ix3 b k p) := by
  blk_point [iblk, V, start_2]

theorem centres_at (c : Dev nD) (b : Fin 16) (p : Fin 8192) :
    (iblk m c 3 startPt (ix3 b 0 p) : EReal) = m ((c : Thread nD τ).loc main_arg2) (ix3 b 0 p) := by
  blk_point [iblk, V, start_3]

theorem boxes_at (c : Dev nD) (b : Fin 16) (k : Fin 4) (n : Fin 64) :
    (iblk m c 4 startPt (ix3 b k n) : EReal) = m ((c : Thread nD τ).loc main_arg3) (ix3 b n k) := by
  have e : (iblk m c 4 startPt (ix3 b k n) : EReal) = (V m c main_v2 : Vec Ideal S16x4x64 .f32) (ix3 b k n) := by
    blk_ext [iblk, start_4]
  rw [e, turned_boxes]
  pointwise []

theorem grid_at (c : Dev nD) (k : Fin 2) (p : Fin 8192) :
    (iblk m c 5 startPt (ix2 k p) : EReal) = m ((c : Thread nD τ).loc main_arg4) (ix2 p k) := by
  have e : (iblk m c 5 startPt (ix2 k p) : EReal) = (V m c main_v3 : Vec Ideal S2x8192 .f32) (ix2 k p) := by
    blk_ext [iblk, start_5]
  rw [e, turned_grid]
  pointwise []

theorem positive_at (c : Dev nD) (b : Fin 16) (p : Fin 8192) :
    (iblk m c 6 startPt (ix2 b p) : EReal) = (((m ((c : Thread nD τ).loc main_arg6) (ix2 b p) : BitVec 1).toNat : ℝ) : EReal) := by
  have e : (iblk m c 6 startPt (ix2 b p) : EReal) = (V m c main_v4 : Vec Ideal S16x8192 .f32) (ix2 b p) := by
    blk_ext [iblk, start_6]
  rw [e, float_mask]
  rfl

theorem matched_at (c : Dev nD) (b : Fin 16) (p : Fin 8192) :
    (iblk m c 7 startPt (ix2 b p) : BitVec 32) = m ((c : Thread nD τ).loc main_arg7) (ix2 b p) := by
  blk_point [iblk, V, start_7]

end Cert.KernelIdeal.Hand
-- ==== Proof.Terms.lean ====
/- The scalar formulas of the loss at one place, on the extended reals, and the laws by which the two programs' ways of
   writing them agree: the soft plus with and without its guard against overflow, a power of two with the logarithm
   divided out, a half taken by a product and by a quotient, a quarter taken inside and outside a sum, and a column
   picked by a row of zeros and a one. -/
module

public import Idealize.ShloMosaic.Lib.Pointwise
public import Idealize.ShloMosaic.Lib.Affine

@[expose] public section

noncomputable section

namespace Cert.Loss

open Idealize.ShloMosaic
open scoped BigOperators

/-- The small number both programs add and clamp by. -/
abbrev eps : EReal := Ideal.ofBits .f32 0x358637BD#32
/-- The pattern of one half. -/
abbrev half : EReal := Ideal.ofBits .f32 0x3F000000#32
/-- The pattern of two. -/
abbrev two : EReal := Ideal.ofBits .f32 0x40000000#32
/-- The pattern of one quarter. -/
abbrev quarter : EReal := Ideal.ofBits .f32 0x3E800000#32

theorem half_eq : half = ((1 / 2 : ℝ) : EReal) := by
  simp [half, Ideal.ofBits, Ideal.ieee, -EReal.coe_mul]; norm_num
theorem two_eq : two = ((2 : ℝ) : EReal) := by
  simp [two, Ideal.ofBits, Ideal.ieee, -EReal.coe_mul]; norm_num
theorem quarter_eq : quarter = ((1 / 4 : ℝ) : EReal) := by
  simp [quarter, Ideal.ofBits, Ideal.ieee, -EReal.coe_mul]; norm_num

/-- The soft plus, guarded: the greater of `x` and zero plus the logarithm of one plus `e` to the minus magnitude. -/
def softplus (x : EReal) : EReal := max x 0 + Ideal.log1p (Ideal.exp (-max x (-x)))

/-- The plain soft plus is the guarded one. -/
theorem log1p_exp (x : EReal) : Ideal.log1p (Ideal.exp x) = softplus x := by
  unfold softplus Ideal.log1p
  induction x using EReal.rec with
  | bot => simp
  | top =>
    have e : (1 : EReal) + ⊤ = ⊤ := by rw [show (1 : EReal) = ((1 : ℝ) : EReal) from rfl, EReal.coe_add_top]
    have e1 : Ideal.log 1 = 0 := by rw [show (1 : EReal) = ((1 : ℝ) : EReal) from rfl, Ideal.log_coe]; simp
    simp [e, e1]
  | coe r =>
    have h1 : max ((r : EReal)) (-(r : EReal)) = ((|r| : ℝ) : EReal) := by
      rw [← EReal.coe_neg]; exact (Monotone.map_max (f := Real.toEReal) EReal.coe_strictMono.monotone).symm
    have h2 : max (r : EReal) 0 = ((max r 0 : ℝ) : EReal) := by
      rw [← EReal.coe_zero]; exact (Monotone.map_max (f := Real.toEReal) EReal.coe_strictMono.monotone).symm
    have h3 : ∀ s : ℝ, Ideal.log (1 + Ideal.exp (s : EReal)) = ((Real.log (1 + Real.exp s) : ℝ) : EReal) := fun s => by
      rw [Ideal.exp_coe, show (1 : EReal) = ((1 : ℝ) : EReal) from rfl, ← EReal.coe_add, Ideal.log_coe,
        if_neg (by have := Real.exp_pos s; linarith)]
    rw [h1, h2, ← EReal.coe_neg, h3, h3, ← EReal.coe_add]
    congr 1
    rcases le_total 0 r with h | h
    · rw [abs_of_nonneg h, max_eq_left h]
      have e : 1 + Real.exp r = Real.exp r * (1 + Real.exp (-r)) := by
        rw [mul_add, mul_one, ← Real.exp_add, add_neg_cancel, Real.exp_zero]; ring
      rw [e, Real.log_mul (Real.exp_pos r).ne' (by have := Real.exp_pos (-r); linarith), Real.log_exp]
    · rw [abs_of_nonpos h, max_eq_right h, neg_neg, zero_add]

/-- Two to a number divided by minus the logarithm of two is `e` to minus the number. -/
theorem exp2_scaled (x : EReal) : Ideal.exp2 (x * ((-((Real.log 2)⁻¹) : ℝ) : EReal)) = Ideal.exp (-x) := by
  have hl : 0 < Real.log 2 := Real.log_pos (by norm_num)
  have hc : (-((Real.log 2)⁻¹) : ℝ) < 0 := by have := inv_pos.mpr hl; linarith
  induction x using EReal.rec with
  | bot => rw [EReal.bot_mul_coe_of_neg hc]; simp
  | top => rw [EReal.top_mul_coe_of_neg hc]; simp
  | coe r =>
    rw [← EReal.coe_mul, ← EReal.coe_neg, Ideal.exp2_coe, Ideal.exp_coe]
    congr 1
    show (2 : ℝ) ^ (r * -((Real.log 2)⁻¹)) = Real.exp (-r)
    rw [Real.rpow_def_of_pos (by norm_num)]
    congr 1
    field_simp

/-- Half of a number. -/
theorem half_mul (x : EReal) : half * x = Ideal.div x two := by
  rw [half_eq, two_eq, Ideal.div_coe (by norm_num), mul_comm]

/-- A quarter of a sum is the sum of the quarters. -/
theorem quarter_sum {ι : Type} (s : Finset ι) (f : ι → EReal) : quarter * ∑ i ∈ s, f i = ∑ i ∈ s, quarter * f i := by
  classical
  induction s using Finset.induction_on with
  | empty => simp
  | insert a s ha ih =>
    rw [Finset.sum_insert ha, Finset.sum_insert ha, ← ih]
    exact EReal.left_distrib_of_nonneg_of_ne_top (by rw [quarter_eq]; exact_mod_cast (by norm_num : (0 : ℝ) ≤ 1 / 4))
      (by rw [quarter_eq]; exact EReal.coe_ne_top _) _ _

/-- A small number's word, read signed, is the number. -/
theorem toInt_small (n : ℕ) (h : n < 64) : (BitVec.ofNat 32 n).toInt = n := by
  rw [BitVec.toInt_eq_toNat_cond, BitVec.toNat_ofNat, Nat.mod_eq_of_lt (by omega), if_pos (by omega)]

/-- A sum in which every term but the `i`-th is left out is the `i`-th term. -/
theorem sum_picked (f : Fin 64 → EReal) (i : BitVec 32) (h0 : 0 ≤ i.toInt) (h1 : i.toInt < 64) :
    ∑ x : Fin 64, Scalar.select (IntOp.cmpi .eq (BitVec.ofNat 32 x.val) i) (f x) 0 = f ⟨i.toInt.toNat, by omega⟩ := by
  rw [Finset.sum_eq_single ⟨i.toInt.toNat, by omega⟩]
  · rw [Scalar.select, if_pos]
    refine IntOp.cmpi_eq.mpr (BitVec.eq_of_toInt_eq ?_)
    rw [toInt_small _ (by show i.toInt.toNat < 64; omega)]
    show ((i.toInt.toNat : ℕ) : ℤ) = _
    omega
  · intro x _ hx
    rw [Scalar.select, if_neg]
    intro e
    apply hx
    have := congrArg BitVec.toInt (IntOp.cmpi_eq.mp e)
    have hlt := x.isLt
    apply Fin.ext
    show x.val = i.toInt.toNat
    rw [← this, toInt_small _ hlt]; rfl
  · intro h; exact absurd (Finset.mem_univ _) h

/-- A sum over the flattened places of an image batch is the sum over images and places. -/
theorem sum_flat (f : Fin 16 → Fin 8192 → EReal) :
    ∑ x : Fin 131072, f ⟨x.val / 8192, by omega⟩ ⟨x.val % 8192, by omega⟩ = ∑ b : Fin 16, ∑ p : Fin 8192, f b p := by
  rw [Fin.sum_univ_tiles 16 8192 rfl]
  refine Finset.sum_congr rfl fun b _ => Finset.sum_congr rfl fun p _ => ?_
  congr 1 <;> refine Fin.ext ?_ <;> have := p.isLt
  · show (b.val * 8192 + p.val) / 8192 = b.val; omega
  · show (b.val * 8192 + p.val) % 8192 = p.val; omega

/-- A sum over eight blocks of a hundred and sixty rows is the sum over sixteen images of eighty classes. -/
theorem sum_rows (f : Fin 16 → Fin 80 → EReal) :
    ∑ n : Fin 8, ∑ r : Fin 160, f ⟨(n.val * 160 + r.val) / 80, by omega⟩ ⟨(n.val * 160 + r.val) % 80, by omega⟩
      = ∑ b : Fin 16, ∑ k : Fin 80, f b k := by
  have e := Fin.sum_univ_tiles 8 160 (rfl : 8 * 160 = 1280)
    fun x : Fin 1280 => f ⟨x.val / 80, by omega⟩ ⟨x.val % 80, by omega⟩
  have e' := Fin.sum_univ_tiles 16 80 (rfl : 16 * 80 = 1280)
    fun x : Fin 1280 => f ⟨x.val / 80, by omega⟩ ⟨x.val % 80, by omega⟩
  rw [← e, e']
  refine Finset.sum_congr rfl fun b _ => Finset.sum_congr rfl fun k _ => ?_
  congr 1 <;> refine Fin.ext ?_ <;> have := k.isLt
  · show (b.val * 80 + k.val) / 80 = b.val; omega
  · show (b.val * 80 + k.val) % 80 = k.val; omega

/-! ## The terms -/

/-- The binary cross-entropy of a logit `x` against a target `t`. -/
def bce (x t : EReal) : EReal := softplus x - x * t

/-- The focal term without its quarter: the square of one minus the likelihood, times the cross-entropy. -/
def focal (x t : EReal) : EReal :=
  (1 - Ideal.exp (-bce x t)) * (1 - Ideal.exp (-bce x t)) * bce x t

/-- How near a point is to the middle of an interval. -/
def ratio (u v : EReal) : EReal := Ideal.div (min u v) (max (max u v) eps)

/-- The centre target of a place `(x, y)` in a box. -/
def centre (x y g0 g1 g2 g3 : EReal) : EReal :=
  Ideal.sqrt (ratio (x - g0) (g2 - x) * ratio (y - g1) (g3 - y))

/-- The overlap of two boxes. -/
def inter (p0 p1 p2 p3 g0 g1 g2 g3 : EReal) : EReal :=
  max (min p2 g2 - max p0 g0) 0 * max (min p3 g3 - max p1 g1) 0

/-- The area the two boxes cover, enlarged a little. -/
def union (p0 p1 p2 p3 g0 g1 g2 g3 : EReal) : EReal :=
  (p2 - p0) * (p3 - p1) + (g2 - g0) * (g3 - g1) - inter p0 p1 p2 p3 g0 g1 g2 g3 + eps

/-- The area of the smallest box around the two, enlarged a little. -/
def enclose (p0 p1 p2 p3 g0 g1 g2 g3 : EReal) : EReal :=
  max (max p2 g2 - min p0 g0) 0 * max (max p3 g3 - min p1 g1) 0 + eps

/-- One minus the generalised overlap ratio of two boxes. -/
def giou (p0 p1 p2 p3 g0 g1 g2 g3 : EReal) : EReal :=
  1 - (Ideal.div (inter p0 p1 p2 p3 g0 g1 g2 g3) (union p0 p1 p2 p3 g0 g1 g2 g3 + eps)
    - Ideal.div (enclose p0 p1 p2 p3 g0 g1 g2 g3 - union p0 p1 p2 p3 g0 g1 g2 g3) (enclose p0 p1 p2 p3 g0 g1 g2 g3 + eps))

/-- The low side of a predicted box: its centre less half its decoded extent. -/
def low (x d w : EReal) : EReal := x + d - Ideal.div (softplus (Ideal.exp w)) two
/-- The high side of a predicted box. -/
def high (x d w : EReal) : EReal := x + d + Ideal.div (softplus (Ideal.exp w)) two

/-- The weighted box loss of one place. -/
def boxTerm (x y d0 d1 d2 d3 g0 g1 g2 g3 w : EReal) : EReal :=
  giou (low x d0 d2) (low y d1 d3) (high x d0 d2) (high y d1 d3) g0 g1 g2 g3 * centre x y g0 g1 g2 g3 * w

/-- The centre loss of one place. -/
def centreTerm (x y g0 g1 g2 g3 c w : EReal) : EReal := bce c (centre x y g0 g1 g2 g3) * w

end Cert.Loss
-- ==== Proof.KernelTerms.lean ====
/- What the kernel's payloads are on the extended reals: each a sum over images and places of the loss's scalar terms. -/
module

public import Idealize.ShloMosaic.Lib.Pointwise
public import proofs.«01_k».proof.Proof.Sums
public import proofs.«01_k».proof.Proof.Terms

@[expose] public section

set_option maxRecDepth 16384

noncomputable section

namespace Cert.KernelIdeal.Hand

open Idealize.ShloMosaic Idealize.SL.Sem
open Cert.KernelIdeal Cert.KernelIdeal.Gen Cert.Loss
open scoped BigOperators

variable (x2 : Vec Ideal S16x4x8192 .f32) (x3 : Vec Ideal S16x1x8192 .f32) (x4 : Vec Ideal S16x4x64 .f32)
  (x5 : Vec Ideal S2x8192 .f32) (x6 : Vec Ideal S16x8192 .f32) (x7 : Vec Ideal S16x8192 .i32)
  (g : Vec Ideal S4x16x8192 .f32)

theorem absf_eq (x : EReal) : FloatOps.absf (F := Ideal) (φ := .f32) x = max x (-x) := rfl

theorem exp2_eq (x : EReal) : FloatOps.exp2 (F := Ideal) (φ := .f32) x = Ideal.exp2 x := rfl

/-- The named constant is minus the reciprocal of the logarithm of two. -/
theorem scale_eq : Named.named (F := Ideal) Cert.KernelIdeal.κ "neg_log2_e" (φ := .f32) 0xBFB8AA3B#32
    = ((-((Real.log 2)⁻¹) : ℝ) : EReal) :=
  IdealRules.named_const.ideal_named_scalar _ _ _ _ rfl

theorem sumMask_eq : sumMask x6 = (∑ b : Fin 16, ∑ p : Fin 8192, x6 (ix2 b p) : EReal) := by
  pointwise [sumMask, k0_pay1, k0_pay53, k0_pay41]

/-- The row of zeros and a one picks the named box. -/
theorem gathered_eq (k : Fin 4) (b : Fin 16) (p : Fin 8192) (h0 : 0 ≤ (x7 (ix2 b p)).toInt) (h1 : (x7 (ix2 b p)).toInt < 64) :
    gathered x4 x7 (ix3 k b p) = x4 (ix3 b k ⟨(x7 (ix2 b p)).toInt.toNat, by omega⟩) := by
  pointwise [gathered, k0_pay9, indexRow, boxSlab]
  exact sum_picked (fun x => x4 (ix3 b k x)) _ h0 h1

/-- The centre target at one place. -/
theorem centre_at (b : Fin 16) (p : Fin 8192) :
    k0_pay40 (k0_pay34 (sideSlab g 0)) (k0_pay35 (sideSlab g 1)) (k0_pay36 (sideSlab g 2)) (k0_pay37 (sideSlab g 3))
        (gridRow x5 0) (gridRow x5 1) (ix2 b p)
      = centre (x5 (ix2 0 p)) (x5 (ix2 1 p)) (g (ix3 0 b p)) (g (ix3 1 b p)) (g (ix3 2 b p)) (g (ix3 3 b p)) := by
  pointwise [k0_pay40, k0_pay34, k0_pay35, k0_pay36, k0_pay37, k0_pay38, k0_pay39, sideSlab, gridRow]
  rfl

theorem sumCenter_eq : sumCenter g x3 x5 x6
    = (∑ b : Fin 16, ∑ p : Fin 8192, centreTerm (x5 (ix2 0 p)) (x5 (ix2 1 p)) (g (ix3 0 b p)) (g (ix3 1 b p))
        (g (ix3 2 b p)) (g (ix3 3 b p)) (x3 (ix3 b 0 p)) (x6 (ix2 b p)) : EReal) := by
  pointwise [sumCenter, k0_pay42, k0_pay41]
  refine Finset.sum_congr rfl fun b _ => Finset.sum_congr rfl fun p _ => ?_
  have e := centre_at x5 g b p
  rw [absf_eq, zero_sub]
  unfold centreTerm bce softplus
  rw [← e]

theorem extent_at (w : Vec Ideal S16x1x8192 .f32) (b : Fin 16) (p : Fin 8192) :
    k0_pay45 w (ix2 b p) = softplus (Ideal.exp (w (ix3 b 0 p))) := by
  pointwise [k0_pay45]
  rw [absf_eq, zero_sub]; rfl

theorem low_x (b : Fin 16) (p : Fin 8192) :
    k0_pay47 (k0_pay38 (gridRow x5 0)) (predRow x2 0) (predRow x2 2) (ix2 b p)
      = low (x5 (ix2 0 p)) (x2 (ix3 b 0 p)) (x2 (ix3 b 2 p)) := by
  pointwise [k0_pay47, k0_pay45, k0_pay43, k0_pay38, gridRow, predRow]
  rw [absf_eq, zero_sub, half_mul]; rfl

theorem low_y (b : Fin 16) (p : Fin 8192) :
    k0_pay48 (k0_pay39 (gridRow x5 1)) (predRow x2 1) (predRow x2 3) (ix2 b p)
      = low (x5 (ix2 1 p)) (x2 (ix3 b 1 p)) (x2 (ix3 b 3 p)) := by
  pointwise [k0_pay48, k0_pay46, k0_pay44, k0_pay39, gridRow, predRow]
  rw [absf_eq, zero_sub, half_mul]; rfl

theorem high_x (b : Fin 16) (p : Fin 8192) :
    k0_pay49 (k0_pay38 (gridRow x5 0)) (predRow x2 0) (predRow x2 2) (ix2 b p)
      = high (x5 (ix2 0 p)) (x2 (ix3 b 0 p)) (x2 (ix3 b 2 p)) := by
  pointwise [k0_pay49, k0_pay45, k0_pay43, k0_pay38, gridRow, predRow]
  rw [absf_eq, zero_sub, half_mul]; rfl

theorem high_y (b : Fin 16) (p : Fin 8192) :
    k0_pay50 (k0_pay39 (gridRow x5 1)) (predRow x2 1) (predRow x2 3) (ix2 b p)
      = high (x5 (ix2 1 p)) (x2 (ix3 b 1 p)) (x2 (ix3 b 3 p)) := by
  pointwise [k0_pay50, k0_pay46, k0_pay44, k0_pay39, gridRow, predRow]
  rw [absf_eq, zero_sub, half_mul]; rfl

/-- The box loss's sum, from its pieces held as arrays. -/
theorem pay52_eq (g0 g1 g2 g3 c w p0 p1 p2 p3 : FVec Ideal S16x8192 .f32) :
    k0_pay52 g0 g1 g2 g3 c w p0 p1 p2 p3 (maximumf p0 g0)
      = (∑ b : Fin 16, ∑ p : Fin 8192, giou (p0 (ix2 b p)) (p1 (ix2 b p)) (p2 (ix2 b p)) (p3 (ix2 b p)) (g0 (ix2 b p))
          (g1 (ix2 b p)) (g2 (ix2 b p)) (g3 (ix2 b p)) * c (ix2 b p) * w (ix2 b p) : EReal) := by
  pointwise [k0_pay52]
  rfl

theorem side0 (b : Fin 16) (p : Fin 8192) : k0_pay34 (sideSlab g 0) (ix2 b p) = g (ix3 0 b p) := by
  pointwise [k0_pay34, sideSlab]
theorem side1 (b : Fin 16) (p : Fin 8192) : k0_pay35 (sideSlab g 1) (ix2 b p) = g (ix3 1 b p) := by
  pointwise [k0_pay35, sideSlab]
theorem side2 (b : Fin 16) (p : Fin 8192) : k0_pay36 (sideSlab g 2) (ix2 b p) = g (ix3 2 b p) := by
  pointwise [k0_pay36, sideSlab]
theorem side3 (b : Fin 16) (p : Fin 8192) : k0_pay37 (sideSlab g 3) (ix2 b p) = g (ix3 3 b p) := by
  pointwise [k0_pay37, sideSlab]

theorem sumBoxes_eq : sumBoxes g x2 x5 x6
    = (∑ b : Fin 16, ∑ p : Fin 8192, boxTerm (x5 (ix2 0 p)) (x5 (ix2 1 p)) (x2 (ix3 b 0 p)) (x2 (ix3 b 1 p))
        (x2 (ix3 b 2 p)) (x2 (ix3 b 3 p)) (g (ix3 0 b p)) (g (ix3 1 b p)) (g (ix3 2 b p)) (g (ix3 3 b p)) (x6 (ix2 b p)) : EReal) := by
  refine (pay52_eq _ _ _ _ _ _ _ _ _ _).trans ?_
  refine Finset.sum_congr rfl fun b _ => Finset.sum_congr rfl fun p _ => ?_
  rw [low_x, low_y, high_x, high_y, side0, side1, side2, side3, centre_at]
  have e : k0_pay41 x6 (ix2 b p) = x6 (ix2 b p) := by pointwise [k0_pay41]
  rw [e]; rfl

/-- One step's part of the focal sum: lane by lane, the sum over its rows is added. -/
theorem pay3_eq (v3 v5 : Vec Ideal S160x8192 .f32) (v : Vec Ideal S1x8192 .f32) (l : Fin 8192) :
    k0_pay3 v3 v5 v (ix2 0 l) = (v (ix2 0 l) + ∑ r : Fin 160, focal (v3 (ix2 r l)) (v5 (ix2 r l)) : EReal) := by
  pointwise [k0_pay3]
  simp only [scale_eq, exp2_eq, exp2_scaled, log1p_exp]
  rfl

theorem pay2_eq (l : Fin 8192) : k0_pay2 (F := Ideal) (ix2 0 l) = (0 : EReal) := by
  pointwise [k0_pay2]

theorem pay5_eq (a : EReal) (v : Vec Ideal S1x8192 .f32) :
    k0_pay5 (F := Ideal) a v = Ideal.div (quarter * ∑ l : Fin 8192, v (ix2 0 l)) (max a 1) := by
  pointwise [k0_pay5, k0_pay4]
  simp

theorem pay6_eq (a b : EReal) : k0_pay6 (F := Ideal) a b = Ideal.div b (max a 1) := by
  pointwise [k0_pay6, k0_pay4]
theorem pay7_eq (a b : EReal) : k0_pay7 (F := Ideal) a b = Ideal.div b (max a 1) := by
  pointwise [k0_pay7, k0_pay4]

theorem pay8_eq (a b d : EReal) (v : Vec Ideal S1x8192 .f32) : k0_pay8 (F := Ideal) a v b d
    = k0_pay5 (F := Ideal) a v + two * k0_pay6 (F := Ideal) a b + k0_pay7 (F := Ideal) a d := rfl

end Cert.KernelIdeal.Hand
-- ==== Proof.KernelOutput.lean ====
/- What the kernel's program leaves in its four result buffers: the four words the last step writes. -/
module

public import proofs.«01_k».proof.Proof.Region
public import Idealize.ShloMosaic.Lib.Pointwise
public import Idealize.ShloMosaic.Lib.Pipeline.ValueKit
public import Idealize.ShloMosaic.Lib.StableHlo.RunRead

@[expose] public section

set_option maxRecDepth 16384

noncomputable section

namespace Cert.KernelIdeal.Hand

open Idealize.ShloMosaic Idealize.ShloMosaic.TcCoe Idealize.ShloMosaic.Tactic
open Idealize.ShloMosaic.Pipeline (Dat Cfg Window)
open Cert.KernelIdeal Cert.KernelIdeal.Gen

variable (m : (ℓ : Loc nD τ sig) → Buf (Elt Ideal) ℓ)

/-- The four words the last step writes. -/
def written (c : Dev nD) : Vec Ideal S4 .f32 := results (words m c) (lanes m c 7 (by decide))

/-- The output array after the run. -/
theorem output (c : Dev nD) : (dats m 0 c).arrAt 8 cfg0.N = written m c := by
  refine (dats m 0 c).arrAt_eq_of_after_last 8 lastPt (by decide +kernel) _ fun j => ?_
  blk_simp
  rw [after_8]
  rfl

/-- A one-word slice of the output made a scalar. -/
theorem word_0 (w : Vec Ideal S4 .f32) : shapeCast S_ (extractStridedSlice S1 ![0] w slices_S4_S1_0) shapeCasts_S1_S_ ix0 = w (ix1 0) := by
  pointwise []
theorem word_1 (w : Vec Ideal S4 .f32) : shapeCast S_ (extractStridedSlice S1 ![1] w slices_S4_S1_1) shapeCasts_S1_S_ ix0 = w (ix1 1) := by
  pointwise []
theorem word_2 (w : Vec Ideal S4 .f32) : shapeCast S_ (extractStridedSlice S1 ![2] w slices_S4_S1_2) shapeCasts_S1_S_ ix0 = w (ix1 2) := by
  pointwise []
theorem word_3 (w : Vec Ideal S4 .f32) : shapeCast S_ (extractStridedSlice S1 ![3] w slices_S4_S1_3) shapeCasts_S1_S_ ix0 = w (ix1 3) := by
  pointwise []

theorem tail_arr (c : Dev nD) :
    Pipeline.withArrays spec0 c (V0 m c) (fun w => (dats m 0 c).arrAt w cfg0.N) (Proc.devRef .tc main_v5) = written m c :=
  (Pipeline.withArrays_arr spec0 launch0.win.arr_inj c (V0 m c) _ 8).trans (output m c)

theorem tail_7 (c : Dev nD) : (Pipeline.afterTail₀ cfgs (dats m) 0 (V0 m) [hostOps1] c main_v7 : Vec Ideal S_ .f32)
    = shapeCast S_ (extractStridedSlice S1 ![0] (written m c) slices_S4_S1_0) shapeCasts_S1_S_ := by
  unfold Pipeline.afterTail₀
  rw [← tail_arr m c]
  after_reads_simp
  rfl
theorem tail_9 (c : Dev nD) : (Pipeline.afterTail₀ cfgs (dats m) 0 (V0 m) [hostOps1] c main_v9 : Vec Ideal S_ .f32)
    = shapeCast S_ (extractStridedSlice S1 ![1] (written m c) slices_S4_S1_1) shapeCasts_S1_S_ := by
  unfold Pipeline.afterTail₀
  rw [← tail_arr m c]
  after_reads_simp
  rfl
theorem tail_11 (c : Dev nD) : (Pipeline.afterTail₀ cfgs (dats m) 0 (V0 m) [hostOps1] c main_v11 : Vec Ideal S_ .f32)
    = shapeCast S_ (extractStridedSlice S1 ![2] (written m c) slices_S4_S1_2) shapeCasts_S1_S_ := by
  unfold Pipeline.afterTail₀
  rw [← tail_arr m c]
  after_reads_simp
  rfl
theorem tail_13 (c : Dev nD) : (Pipeline.afterTail₀ cfgs (dats m) 0 (V0 m) [hostOps1] c main_v13 : Vec Ideal S_ .f32)
    = shapeCast S_ (extractStridedSlice S1 ![3] (written m c) slices_S4_S1_3) shapeCasts_S1_S_ := by
  unfold Pipeline.afterTail₀
  rw [← tail_arr m c]
  after_reads_simp
  rfl

end Cert.KernelIdeal.Hand
-- ==== Proof.RefTerms.lean ====
/- What the reference's arrays hold on the extended reals, place by place, and its four sums. -/
module

public import Idealize.ShloMosaic.Lib.Pointwise
public import proofs.«01_k».proof.Proof.Gen.ReferenceIdeal
public import proofs.«01_k».proof.Proof.Gen.ReferenceIdeal.Run
public import proofs.«01_k».proof.Proof.Terms

@[expose] public section

set_option maxRecDepth 16384

noncomputable section

namespace Cert.ReferenceIdeal.Hand

open Idealize.ShloMosaic Idealize.SL.Sem
open Cert.ReferenceIdeal Cert.ReferenceIdeal.Gen Cert.ReferenceIdeal.Value Cert.Loss
open scoped BigOperators

variable (V0 : Valuation τ sig (Elt Ideal))

/-- The arguments, as arrays. -/
abbrev predBoxes : FVec Ideal S16x4x8192 .f32 := V0 (Proc.devRef .tc main_arg0)
abbrev logits : FVec Ideal S16x80x8192 .f32 := V0 (Proc.devRef .tc main_arg1)
abbrev centres : FVec Ideal S16x1x8192 .f32 := V0 (Proc.devRef .tc main_arg2)
abbrev boxes : FVec Ideal S16x64x4 .f32 := V0 (Proc.devRef .tc main_arg3)
abbrev grid : FVec Ideal S8192x2 .f32 := V0 (Proc.devRef .tc main_arg4)
abbrev targets : FVec Ideal S16x80x8192 .f32 := V0 (Proc.devRef .tc main_arg5)
abbrev positive : IVec S16x8192 1 := V0 (Proc.devRef .tc main_arg6)
abbrev matched : IVec S16x8192 32 := V0 (Proc.devRef .tc main_arg7)

/-- The image of a flattened place. -/
abbrev img (x : Fin 131072) : Fin 16 := ⟨x.val / 8192, by omega⟩
/-- The grid point of a flattened place. -/
abbrev pt (x : Fin 131072) : Fin 8192 := ⟨x.val % 8192, by omega⟩

theorem absf_eq (x : EReal) : FloatOps.absf (F := Ideal) (φ := .f32) x = max x (-x) := rfl

/-- The guarded soft plus as the reference writes it. -/
theorem softplus_eq (x : EReal) :
    (max 0 x + Ideal.log1p (Ideal.exp (-FloatOps.absf (F := Ideal) (φ := .f32) (0 - x))) : EReal) = softplus x := by
  rw [absf_eq, zero_sub, neg_neg, max_comm 0 x, max_comm (-x) x]; rfl

theorem v14_at (b : Fin 16) (k : Fin 80) (p : Fin 8192) :
    res_main_v14 V0 (ix3 b k p) = (bce (logits V0 (ix3 b k p)) (targets V0 (ix3 b k p)) : EReal) := by
  pointwise [res_main_v14, res_main_v3, res_main_cst]
  simp only [ne_eq, not_true_eq_false, ↓reduceIte, softplus_eq]
  rfl

/-- The focal sum, its quarter inside. -/
theorem focal_sum : Host.reduceAdd (mulf (mulf (broadcastInDim S16x80x8192 ![] bcast_S_S16x80x8192 (constant S_ .f32 0x3E800000#32)) (mulf (res_main_v18 V0) (res_main_v18 V0))) (res_main_v14 V0)) (constant S_ .f32 0x00000000#32) reducesTo_S16x80x8192_S_d0_1_2 h_S_ ix0
    = (quarter * ∑ b : Fin 16, ∑ k : Fin 80, ∑ p : Fin 8192, focal (logits V0 (ix3 b k p)) (targets V0 (ix3 b k p)) : EReal) := by
  pointwise [res_main_v18]
  simp only [v14_at, quarter_sum, focal, mul_assoc]

theorem mask_at (x : Fin 131072) : res_main_v30 V0 (ix1 x) = (((positive V0 (ix2 (img x) (pt x))).toNat : ℝ) : EReal) := by
  pointwise [res_main_v30]
  rfl

/-- The sum of the mask over the flattened places. -/
theorem mask_sum : (Finset.univ.sum (M := EReal) fun x : Fin 131072 => res_main_v30 V0 (ix1 x))
    = ∑ b : Fin 16, ∑ p : Fin 8192, (((positive V0 (ix2 b p)).toNat : ℝ) : EReal) :=
  (Finset.sum_congr (M := EReal) rfl fun x _ => mask_at V0 x).trans (sum_flat fun b p => (((positive V0 (ix2 b p)).toNat : ℝ) : EReal))

/-- The greater of a sum over the flattened places and one. -/
theorem at_least_one (w : FVec Ideal S131072 .f32) :
    maximumf (Host.reduceAdd w (constant S_ .f32 0x00000000#32) reducesTo_S131072_S_d0 h_S_) (constant S_ .f32 0x3F800000#32) ix0
      = (max (∑ x : Fin 131072, w (ix1 x)) 1 : EReal) := by
  pointwise []

theorem count_at : res_main_v32 V0 ix0
    = (max (∑ b : Fin 16, ∑ p : Fin 8192, (((positive V0 (ix2 b p)).toNat : ℝ) : EReal)) 1 : EReal) :=
  (at_least_one (res_main_v30 V0)).trans (congrArg (fun s : EReal => max s 1) (mask_sum V0))

theorem grid_x (x : Fin 131072) : res_main_v59 V0 (ix1 x) = (grid V0 (ix2 (pt x) 0) : EReal) := by
  pointwise [res_main_v59, res_main_v57]
theorem grid_y (x : Fin 131072) : res_main_v61 V0 (ix1 x) = (grid V0 (ix2 (pt x) 1) : EReal) := by
  pointwise [res_main_v61, res_main_v57]

theorem pred_at (x : Fin 131072) (k : Fin 4) : res_main_v34 V0 (ix2 x k) = (predBoxes V0 (ix3 (img x) k (pt x)) : EReal) := by
  pointwise [res_main_v34]
theorem centre_logit_at (x : Fin 131072) : res_main_v36 V0 (ix1 x) = (centres V0 (ix3 (img x) 0 (pt x)) : EReal) := by
  pointwise [res_main_v36]

/-- The centre target at a flattened place. -/
theorem centre_at (x : Fin 131072) : res_main_v85 V0 (ix1 x)
    = (centre (grid V0 (ix2 (pt x) 0)) (grid V0 (ix2 (pt x) 1)) (res_main_v54 V0 (ix2 x 0)) (res_main_v54 V0 (ix2 x 1))
        (res_main_v54 V0 (ix2 x 2)) (res_main_v54 V0 (ix2 x 3)) : EReal) := by
  pointwise [res_main_v85, res_main_v64, res_main_v70, res_main_v67, res_main_v73]
  simp only [grid_x, grid_y]
  rfl

/-- The sum of the centre losses, over the flattened places. -/
theorem centre_sum : Host.reduceAdd (mulf (subf (select (cmpf .une (res_main_v89 V0) (res_main_v89 V0)) (addf (broadcastInDim S131072 ![] bcast_S_S131072 (res_main_cst_12 V0)) (res_main_v36 V0)) (addf (maximumf (broadcastInDim S131072 ![] bcast_S_S131072 (res_main_cst_12 V0)) (res_main_v36 V0)) (Host.log1p (Host.exp (Host.negf (Host.absf (res_main_v89 V0))))))) (mulf (res_main_v36 V0) (res_main_v85 V0))) (res_main_v30 V0)) (constant S_ .f32 0x00000000#32) reducesTo_S131072_S_d0 h_S_ ix0
    = (∑ x : Fin 131072, centreTerm (grid V0 (ix2 (pt x) 0)) (grid V0 (ix2 (pt x) 1)) (res_main_v54 V0 (ix2 x 0))
        (res_main_v54 V0 (ix2 x 1)) (res_main_v54 V0 (ix2 x 2)) (res_main_v54 V0 (ix2 x 3))
        (centres V0 (ix3 (img x) 0 (pt x))) (((positive V0 (ix2 (img x) (pt x))).toNat : ℝ) : EReal) : EReal) := by
  pointwise [res_main_v89, res_main_cst_12]
  simp only [ne_eq, not_true_eq_false, ↓reduceIte, softplus_eq, mask_at, centre_logit_at, centre_at]
  rfl

theorem v128_at (x : Fin 131072) : res_main_v128 V0 (ix1 x) = (softplus (Ideal.exp (predBoxes V0 (ix3 (img x) 2 (pt x)))) : EReal) := by
  pointwise [res_main_v128, res_main_v119, res_main_v112, res_main_cst_14]
  simp only [ne_eq, not_true_eq_false, ↓reduceIte, softplus_eq, pred_at]
theorem v141_at (x : Fin 131072) : res_main_v141 V0 (ix1 x) = (softplus (Ideal.exp (predBoxes V0 (ix3 (img x) 3 (pt x)))) : EReal) := by
  pointwise [res_main_v141, res_main_v132, res_main_v115, res_main_cst_15]
  simp only [ne_eq, not_true_eq_false, ↓reduceIte, softplus_eq, pred_at]

theorem low_x (x : Fin 131072) : res_main_v144 V0 (ix1 x)
    = (low (grid V0 (ix2 (pt x) 0)) (predBoxes V0 (ix3 (img x) 0 (pt x))) (predBoxes V0 (ix3 (img x) 2 (pt x))) : EReal) := by
  pointwise [res_main_v144, res_main_v106]
  simp only [grid_x, pred_at, v128_at]; rfl
theorem low_y (x : Fin 131072) : res_main_v147 V0 (ix1 x)
    = (low (grid V0 (ix2 (pt x) 1)) (predBoxes V0 (ix3 (img x) 1 (pt x))) (predBoxes V0 (ix3 (img x) 3 (pt x))) : EReal) := by
  pointwise [res_main_v147, res_main_v109]
  simp only [grid_y, pred_at, v141_at]; rfl
theorem high_x (x : Fin 131072) : res_main_v150 V0 (ix1 x)
    = (high (grid V0 (ix2 (pt x) 0)) (predBoxes V0 (ix3 (img x) 0 (pt x))) (predBoxes V0 (ix3 (img x) 2 (pt x))) : EReal) := by
  pointwise [res_main_v150, res_main_v106]
  simp only [grid_x, pred_at, v128_at]; rfl
theorem high_y (x : Fin 131072) : res_main_v153 V0 (ix1 x)
    = (high (grid V0 (ix2 (pt x) 1)) (predBoxes V0 (ix3 (img x) 1 (pt x))) (predBoxes V0 (ix3 (img x) 3 (pt x))) : EReal) := by
  pointwise [res_main_v153, res_main_v109]
  simp only [grid_y, pred_at, v141_at]; rfl

theorem inter_at (x : Fin 131072) : res_main_v172 V0 (ix1 x)
    = (inter (res_main_v144 V0 (ix1 x)) (res_main_v147 V0 (ix1 x)) (res_main_v150 V0 (ix1 x)) (res_main_v153 V0 (ix1 x))
        (res_main_v54 V0 (ix2 x 0)) (res_main_v54 V0 (ix2 x 1)) (res_main_v54 V0 (ix2 x 2)) (res_main_v54 V0 (ix2 x 3)) : EReal) := by
  pointwise [res_main_v172]
  rfl
theorem union_at (x : Fin 131072) : res_main_v190 V0 (ix1 x)
    = (union (res_main_v144 V0 (ix1 x)) (res_main_v147 V0 (ix1 x)) (res_main_v150 V0 (ix1 x)) (res_main_v153 V0 (ix1 x))
        (res_main_v54 V0 (ix2 x 0)) (res_main_v54 V0 (ix2 x 1)) (res_main_v54 V0 (ix2 x 2)) (res_main_v54 V0 (ix2 x 3)) : EReal) := by
  pointwise [res_main_v190]
  rw [inter_at]; rfl
theorem enclose_at (x : Fin 131072) : res_main_v214 V0 (ix1 x)
    = (enclose (res_main_v144 V0 (ix1 x)) (res_main_v147 V0 (ix1 x)) (res_main_v150 V0 (ix1 x)) (res_main_v153 V0 (ix1 x))
        (res_main_v54 V0 (ix2 x 0)) (res_main_v54 V0 (ix2 x 1)) (res_main_v54 V0 (ix2 x 2)) (res_main_v54 V0 (ix2 x 3)) : EReal) := by
  pointwise [res_main_v214]
  rfl

/-- The sum of the box losses, over the flattened places. -/
theorem box_sum : Host.reduceAdd (mulf (mulf (subf (broadcastInDim S131072 ![] bcast_S_S131072 (constant S_ .f32 0x3F800000#32)) (subf (Host.divf (res_main_v172 V0) (addf (res_main_v190 V0) (broadcastInDim S131072 ![] bcast_S_S131072 (constant S_ .f32 0x358637BD#32)))) (Host.divf (subf (res_main_v214 V0) (res_main_v190 V0)) (addf (res_main_v214 V0) (broadcastInDim S131072 ![] bcast_S_S131072 (constant S_ .f32 0x358637BD#32)))))) (res_main_v85 V0)) (res_main_v30 V0)) (constant S_ .f32 0x00000000#32) reducesTo_S131072_S_d0 h_S_ ix0
    = (∑ x : Fin 131072, boxTerm (grid V0 (ix2 (pt x) 0)) (grid V0 (ix2 (pt x) 1))
        (predBoxes V0 (ix3 (img x) 0 (pt x))) (predBoxes V0 (ix3 (img x) 1 (pt x)))
        (predBoxes V0 (ix3 (img x) 2 (pt x))) (predBoxes V0 (ix3 (img x) 3 (pt x)))
        (res_main_v54 V0 (ix2 x 0)) (res_main_v54 V0 (ix2 x 1)) (res_main_v54 V0 (ix2 x 2)) (res_main_v54 V0 (ix2 x 3))
        (((positive V0 (ix2 (img x) (pt x))).toNat : ℝ) : EReal) : EReal) := by
  pointwise []
  simp only [mask_at, centre_at, inter_at, union_at, enclose_at, low_x, low_y, high_x, high_y]
  rfl

end Cert.ReferenceIdeal.Hand
-- ==== Proof.RefGather.lean ====
/- The boxes the reference gathers: where every index names one of an image's boxes, the row gathered at a place is that
   box of that image. -/
module

public import proofs.«01_k».proof.Proof.RefTerms

@[expose] public section

set_option maxRecDepth 16384

noncomputable section

namespace Cert.ReferenceIdeal.Hand

open Idealize.ShloMosaic Idealize.SL.Sem
open Cert.ReferenceIdeal Cert.ReferenceIdeal.Gen Cert.ReferenceIdeal.Value Cert.Loss

/-- The dimension numbers of the gather. -/
abbrev dims : GatherDims S16x64x4 S16x8192x2 S16x8192x4 := gather_S16x64x4_S16x8192x2_S16x8192x4_2_01_n_n_01_2_114

/-- The gather at a place: the image and the box number, each read signed and kept in range. -/
theorem gather_at (x : FVec Ideal S16x64x4 .f32) (idx : IVec S16x8192x2 32) (b : Fin 16) (p : Fin 8192) (k : Fin 4) :
    Host.gather dims x idx (ix3 b p k)
      = x (ix3 ⟨min (idx (ix3 b p 0)).toInt.toNat 15, by omega⟩ ⟨min (idx (ix3 b p 1)).toInt.toNat 63, by omega⟩ k) := by
  unfold Host.gather
  congr 1
  funext a
  refine Fin.ext ?_
  show dims.start (ix3 b p k) idx a + dims.batchCoord (ix3 b p k) a + dims.offCoord (ix3 b p k) a = _
  rw [GatherDims.batchCoord_eq_zero _ _ _ List.not_mem_nil, Nat.add_zero]
  have hs : ∀ (c : Fin 2) (hc : c.val < dims.startIndexMap.length), dims.siIdx (ix3 b p k) ⟨c.val, hc⟩ = ix3 b p c := by
    intro c hc
    funext e; refine Fin.ext ?_
    match e with
    | ⟨0, _⟩ => rfl
    | ⟨1, _⟩ => rfl
    | ⟨2, _⟩ => rfl
  match a with
  | ⟨0, _⟩ =>
    rw [GatherDims.offCoord_eq_zero _ _ _ (show (⟨0, by decide⟩ : Fin 3) ∉ dims.sKept from by decide), Nat.add_zero]
    unfold GatherDims.start
    rw [dif_pos (show (⟨0, by decide⟩ : Fin 3) ∈ dims.startIndexMap from by decide)]
    have h := hs 0 (by decide)
    exact congrArg (fun i => min (idx i).toInt.toNat 15) h
  | ⟨1, _⟩ =>
    rw [GatherDims.offCoord_eq_zero _ _ _ (show (⟨1, by decide⟩ : Fin 3) ∉ dims.sKept from by decide), Nat.add_zero]
    unfold GatherDims.start
    rw [dif_pos (show (⟨1, by decide⟩ : Fin 3) ∈ dims.startIndexMap from by decide)]
    have h := hs 1 (by decide)
    exact congrArg (fun i => min (idx i).toInt.toNat 63) h
  | ⟨2, _⟩ =>
    unfold GatherDims.start
    rw [dif_neg (show ¬ (⟨2, by decide⟩ : Fin 3) ∈ dims.startIndexMap from by decide), Nat.zero_add]
    rfl

/-- A word that is not negative is not moved. -/
theorem not_wrapped (v w : BitVec 32) (h : 0 ≤ v.toInt) : Scalar.select (IntOp.cmpi .slt v 0#32) w v = v := by
  rw [Scalar.select, if_neg]
  intro e
  have := IntOp.cmpi_slt.mp e
  rw [show (0#32 : BitVec 32).toInt = 0 from by decide] at this
  omega

/-- An image's number and a box number in range are kept as they are. -/
theorem picked (n : ℕ) (hn : n < 16) (v w w' : BitVec 32) (h0 : 0 ≤ v.toInt) (h1 : v.toInt < 64) (f : Fin 16 → Fin 64 → EReal) :
    f ⟨min (Scalar.select (IntOp.cmpi .slt (BitVec.ofNat 32 n) 0#32) w (BitVec.ofNat 32 n)).toInt.toNat 15, by omega⟩
        ⟨min (Scalar.select (IntOp.cmpi .slt v 0#32) w' v).toInt.toNat 63, by omega⟩
      = f ⟨n, hn⟩ ⟨v.toInt.toNat, by omega⟩ := by
  have hb : (BitVec.ofNat 32 n).toInt = n := toInt_small _ (by omega)
  have e0 := not_wrapped (BitVec.ofNat 32 n) w (by rw [hb]; omega)
  have e1 := not_wrapped v w' h0
  refine congrArg₂ f (Fin.ext ?_) (Fin.ext ?_)
  · show min _ 15 = n
    rw [e0, hb]; omega
  · show min _ 63 = v.toInt.toNat
    rw [e1]; omega

variable (V0 : Valuation τ sig (Elt Ideal))

theorem gathered_at (x : Fin 131072) (k : Fin 4) (h0 : 0 ≤ (matched V0 (ix2 (img x) (pt x))).toInt)
    (h1 : (matched V0 (ix2 (img x) (pt x))).toInt < 64) :
    res_main_v54 V0 (ix2 x k)
      = (boxes V0 (ix3 (img x) ⟨(matched V0 (ix2 (img x) (pt x))).toInt.toNat, by omega⟩ k) : EReal) := by
  pointwise [res_main_v54, res_main_v38]
  refine (gather_at _ _ _ _ _).trans ?_
  pointwise []
  exact picked (x.val / 8192) (by omega) _ _ _ h0 h1 fun a b => boxes V0 (ix3 a b k)

end Cert.ReferenceIdeal.Hand
-- ==== Proof.RefResults.lean ====
/- The reference's four results on the extended reals, where every index names one of an image's boxes: each by the loss's
   sums over images and places. -/
module

public import proofs.«01_k».proof.Proof.RefGather

@[expose] public section

set_option maxRecDepth 16384

noncomputable section

namespace Cert.ReferenceIdeal.Hand

open Idealize.ShloMosaic Idealize.SL.Sem
open Cert.ReferenceIdeal Cert.ReferenceIdeal.Gen Cert.ReferenceIdeal.Value Cert.Loss
open scoped BigOperators

/-- A running sum of one-bit words is the number of ones, while it fits. -/
theorem foldl_count (l : List (Fin S16x8192.numel)) (x : Fin S16x8192.numel → BitVec 1) (c : BitVec 32)
    (h : c.toNat + l.length < 2 ^ 32) :
    (l.foldl (fun r n => IntOp.addi r ((x n).setWidth 32)) c).toNat = c.toNat + (l.map fun n => (x n).toNat).sum := by
  induction l generalizing c with
  | nil => simp
  | cons a l ih =>
    have hx : (x a).toNat < 2 := (x a).isLt
    have hs : ((x a).setWidth 32).toNat = (x a).toNat := by
      rw [BitVec.toNat_setWidth]; exact Nat.mod_eq_of_lt (by omega)
    have hl : (a :: l).length = l.length + 1 := rfl
    have he : (IntOp.addi c ((x a).setWidth 32)).toNat = c.toNat + (x a).toNat := by
      show (c + (x a).setWidth 32).toNat = _
      rw [BitVec.toNat_add, hs]; exact Nat.mod_eq_of_lt (by omega)
    rw [List.foldl_cons, ih _ (by rw [he]; omega), he, List.map_cons, List.sum_cons]
    omega

theorem map_sum_le (l : List (Fin S16x8192.numel)) (x : Fin S16x8192.numel → BitVec 1) :
    (l.map fun n => (x n).toNat).sum ≤ l.length := by
  induction l with
  | nil => simp
  | cons a l ih =>
    have hx : (x a).toNat < 2 := (x a).isLt
    rw [List.map_cons, List.sum_cons, List.length_cons]; omega

/-- A double sum of numbers, as an extended real. -/
theorem cast_sum (f : Fin 16 → Fin 8192 → ℕ) :
    ((((∑ b : Fin 16, ∑ p : Fin 8192, f b p : ℕ) : ℤ) : ℝ) : EReal) = ∑ b : Fin 16, ∑ p : Fin 8192, ((f b p : ℝ) : EReal) := by
  rw [Int.cast_natCast]
  simp only [EReal.coe_natCast]
  simp only [Nat.cast_sum]

/-- The integer count of the mask, made a float, is the mask's sum. -/
theorem int_count (x : IVec S16x8192 1) :
    sitofp (F := Ideal) .f32 (Host.reduce IntOp.addi (extui 32 x natLt_1_32) (constantI S_ 32 0#32) reducesTo_S16x8192_S_d0_1 h_S_) ix0
      = (∑ b : Fin 16, ∑ p : Fin 8192, (((x (ix2 b p)).toNat : ℝ) : EReal) : EReal) := by
  have hN : S16x8192.numel = 131072 := by decide
  have e : Host.reduce IntOp.addi (extui 32 x natLt_1_32) (constantI S_ 32 0#32) reducesTo_S16x8192_S_d0_1 h_S_ ix0
      = (List.finRange S16x8192.numel).foldl (fun r n => IntOp.addi r ((x (S16x8192.rowMajor.symm n)).setWidth 32)) 0#32 := by
    unfold Host.reduce
    rw [List.filter_eq_self.2 fun n _ => decide_eq_true (funext fun a => a.elim0)]
    rfl
  have hl : (List.finRange S16x8192.numel).length = 131072 := by rw [List.length_finRange, hN]
  have h := foldl_count (List.finRange S16x8192.numel) (fun n => x (S16x8192.rowMajor.symm n)) 0#32
    (by rw [hl]; decide)
  have hle := map_sum_le (List.finRange S16x8192.numel) (fun n => x (S16x8192.rowMajor.symm n))
  have hz : (0#32 : BitVec 32).toNat = 0 := rfl
  rw [hl] at hle
  rw [hz, Nat.zero_add] at h
  show (((Host.reduce IntOp.addi (extui 32 x natLt_1_32) (constantI S_ 32 0#32) reducesTo_S16x8192_S_d0_1 h_S_ ix0).toInt : ℝ) : EReal) = _
  rw [e, BitVec.toInt_eq_toNat_cond, if_pos (by rw [h]; omega), h, ← Fin.sum_univ_def,
    Equiv.sum_comp S16x8192.rowMajor.symm fun i => (x i).toNat, sum_idx2]
  exact cast_sum fun b p => (x (ix2 b p)).toNat

variable (V0 : Valuation τ sig (Elt Ideal))

/-- Every index names one of the sixty-four boxes. -/
def Named64 : Prop := ∀ (b : Fin 16) (p : Fin 8192), 0 ≤ (matched V0 (ix2 b p)).toInt ∧ (matched V0 (ix2 b p)).toInt < 64

/-- One side of the box matched at a place. -/
def side (h : Named64 V0) (k : Fin 4) (b : Fin 16) (p : Fin 8192) : EReal :=
  boxes V0 (ix3 b ⟨(matched V0 (ix2 b p)).toInt.toNat, by have := h b p; omega⟩ k)

/-- The mask at a place, as a number. -/
def weight (b : Fin 16) (p : Fin 8192) : EReal := (((positive V0 (ix2 b p)).toNat : ℝ) : EReal)

/-- The number of positive places, at least one. -/
def count : EReal := max (∑ b : Fin 16, ∑ p : Fin 8192, weight V0 b p) 1

/-- The class loss. -/
def lossClass : EReal :=
  Ideal.div (quarter * ∑ b : Fin 16, ∑ k : Fin 80, ∑ p : Fin 8192, focal (logits V0 (ix3 b k p)) (targets V0 (ix3 b k p))) (count V0)

/-- The box loss. -/
def lossBox (h : Named64 V0) : EReal :=
  Ideal.div (∑ b : Fin 16, ∑ p : Fin 8192, boxTerm (grid V0 (ix2 p 0)) (grid V0 (ix2 p 1))
    (predBoxes V0 (ix3 b 0 p)) (predBoxes V0 (ix3 b 1 p)) (predBoxes V0 (ix3 b 2 p)) (predBoxes V0 (ix3 b 3 p))
    (side V0 h 0 b p) (side V0 h 1 b p) (side V0 h 2 b p) (side V0 h 3 b p) (weight V0 b p)) (count V0)

/-- The centre loss. -/
def lossCentre (h : Named64 V0) : EReal :=
  Ideal.div (∑ b : Fin 16, ∑ p : Fin 8192, centreTerm (grid V0 (ix2 p 0)) (grid V0 (ix2 p 1))
    (side V0 h 0 b p) (side V0 h 1 b p) (side V0 h 2 b p) (side V0 h 3 b p) (centres V0 (ix3 b 0 p)) (weight V0 b p)) (count V0)

/-- The weighted total. -/
def lossTotal (h : Named64 V0) : EReal := lossClass V0 + two * lossBox V0 h + lossCentre V0 h

theorem gathered_side (h : Named64 V0) (x : Fin 131072) (k : Fin 4) :
    res_main_v54 V0 (ix2 x k) = (side V0 h k (img x) (pt x) : EReal) :=
  gathered_at V0 x k (h _ _).1 (h _ _).2

/-- The class loss's term. -/
abbrev termClass : FVec Ideal S_ .f32 := Host.divf (Host.reduceAdd (mulf (mulf (broadcastInDim S16x80x8192 ![] bcast_S_S16x80x8192 (constant S_ .f32 0x3E800000#32)) (mulf (res_main_v18 V0) (res_main_v18 V0))) (res_main_v14 V0)) (constant S_ .f32 0x00000000#32) reducesTo_S16x80x8192_S_d0_1_2 h_S_) (maximumf (constant S_ .f32 0x3F800000#32) (sitofp .f32 (Host.reduce IntOp.addi (extui 32 (V0 (Proc.devRef .tc main_arg6)) natLt_1_32) (constantI S_ 32 0#32) reducesTo_S16x8192_S_d0_1 h_S_)))

/-- The box loss's term. -/
abbrev termBox : FVec Ideal S_ .f32 := Host.divf (Host.reduceAdd (mulf (mulf (subf (broadcastInDim S131072 ![] bcast_S_S131072 (constant S_ .f32 0x3F800000#32)) (subf (Host.divf (res_main_v172 V0) (addf (res_main_v190 V0) (broadcastInDim S131072 ![] bcast_S_S131072 (constant S_ .f32 0x358637BD#32)))) (Host.divf (subf (res_main_v214 V0) (res_main_v190 V0)) (addf (res_main_v214 V0) (broadcastInDim S131072 ![] bcast_S_S131072 (constant S_ .f32 0x358637BD#32)))))) (res_main_v85 V0)) (res_main_v30 V0)) (constant S_ .f32 0x00000000#32) reducesTo_S131072_S_d0 h_S_) (res_main_v32 V0)

/-- The centre loss's term. -/
abbrev termCentre : FVec Ideal S_ .f32 := Host.divf (Host.reduceAdd (mulf (subf (select (cmpf .une (res_main_v89 V0) (res_main_v89 V0)) (addf (broadcastInDim S131072 ![] bcast_S_S131072 (res_main_cst_12 V0)) (res_main_v36 V0)) (addf (maximumf (broadcastInDim S131072 ![] bcast_S_S131072 (res_main_cst_12 V0)) (res_main_v36 V0)) (Host.log1p (Host.exp (Host.negf (Host.absf (res_main_v89 V0))))))) (mulf (res_main_v36 V0) (res_main_v85 V0))) (res_main_v30 V0)) (constant S_ .f32 0x00000000#32) reducesTo_S131072_S_d0 h_S_) (res_main_v32 V0)

theorem div_at (a b : FVec Ideal S_ .f32) : Host.divf a b ix0 = Ideal.div (a ix0) (b ix0) := rfl

theorem class_at : termClass V0 ix0 = lossClass V0 := by
  refine (div_at _ _).trans ?_
  refine congrArg₂ Ideal.div (focal_sum V0) ?_
  show max (Ideal.ofBits .f32 0x3F800000#32) _ = _
  rw [Ideal.ofBits_one_f32, max_comm]
  exact congrArg (fun s : EReal => max s 1) (int_count (positive V0))

theorem box_at (h : Named64 V0) : termBox V0 ix0 = lossBox V0 h := by
  refine (div_at _ _).trans ?_
  refine congrArg₂ Ideal.div ((box_sum V0).trans ?_) (count_at V0)
  simp only [gathered_side V0 h]
  exact sum_flat fun b p => boxTerm (grid V0 (ix2 p 0)) (grid V0 (ix2 p 1))
    (predBoxes V0 (ix3 b 0 p)) (predBoxes V0 (ix3 b 1 p)) (predBoxes V0 (ix3 b 2 p)) (predBoxes V0 (ix3 b 3 p))
    (side V0 h 0 b p) (side V0 h 1 b p) (side V0 h 2 b p) (side V0 h 3 b p) (weight V0 b p)

theorem centre_loss_at (h : Named64 V0) : termCentre V0 ix0 = lossCentre V0 h := by
  refine (div_at _ _).trans ?_
  refine congrArg₂ Ideal.div ((centre_sum V0).trans ?_) (count_at V0)
  simp only [gathered_side V0 h]
  exact sum_flat fun b p => centreTerm (grid V0 (ix2 p 0)) (grid V0 (ix2 p 1))
    (side V0 h 0 b p) (side V0 h 1 b p) (side V0 h 2 b p) (side V0 h 3 b p) (centres V0 (ix3 b 0 p)) (weight V0 b p)

theorem total_form (a b d : FVec Ideal S_ .f32) :
    addf (addf (mulf (constant S_ .f32 0x3F800000#32) a) (mulf (constant S_ .f32 0x40000000#32) b))
        (mulf (constant S_ .f32 0x3F800000#32) d) ix0 = (a ix0 + two * b ix0 + d ix0 : EReal) := by
  show Ideal.ofBits .f32 0x3F800000#32 * a ix0 + two * b ix0 + Ideal.ofBits .f32 0x3F800000#32 * d ix0 = _
  rw [Ideal.ofBits_one_f32, one_mul, one_mul]

/-- The total's term. -/
abbrev termTotal : FVec Ideal S_ .f32 :=
  addf (addf (mulf (constant S_ .f32 0x3F800000#32) (termClass V0)) (mulf (constant S_ .f32 0x40000000#32) (termBox V0)))
    (mulf (constant S_ .f32 0x3F800000#32) (termCentre V0))

theorem total_at (h : Named64 V0) : termTotal V0 ix0 = lossTotal V0 h :=
  (total_form _ _ _).trans (congrArg₂ (fun u v : EReal => u + v)
    (congrArg₂ (fun u v : EReal => u + two * v) (class_at V0) (box_at V0 h)) (centre_loss_at V0 h))

end Cert.ReferenceIdeal.Hand
-- ==== Proof.KernelResults.lean ====
/- The kernel's four words are the reference's four losses, where the arguments agree and every index names a box. -/
module

public import proofs.«01_k».proof.Proof.KernelArrays
public import proofs.«01_k».proof.Proof.KernelTerms
public import proofs.«01_k».proof.Proof.KernelOutput
public import proofs.«01_k».proof.Proof.RefResults

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Loss
open scoped BigOperators

variable (m : (ℓ : Loc nD τ sig) → Buf (Elt Ideal) ℓ) (c : Dev nD)

/-- One step's focal terms in a lane. -/
def part (t : Fin cfg0.N) (l : Fin 8192) : EReal :=
  ∑ r : Fin 160, focal (iblk m c 0 t (ix2 r l)) (iblk m c 1 t (ix2 r l))

/-- The lane sums are the sums of the steps' parts. -/
theorem lanes_sum (l : Fin 8192) (n : ℕ) (h : n < cfg0.N) :
    (lanes m c n h (ix2 0 l) : EReal) = ∑ i : Fin (n + 1), part m c ⟨i.val, by omega⟩ l := by
  induction n with
  | zero =>
    refine (pay3_eq (iblk m c 0 ⟨0, h⟩) (iblk m c 1 ⟨0, h⟩) (k0_pay2 (F := Ideal)) l).trans ?_
    rw [pay2_eq, zero_add, Fin.sum_univ_one]; rfl
  | succ n ih =>
    refine (pay3_eq (iblk m c 0 ⟨n + 1, h⟩) (iblk m c 1 ⟨n + 1, h⟩) (lanes m c n (Nat.lt_of_succ_lt h)) l).trans ?_
    rw [ih]; exact (Fin.sum_univ_castSucc fun i : Fin (n + 1 + 1) => part m c ⟨i.val, by omega⟩ l).symm

/-- The reference's arguments are the kernel's. -/
structure Agrees (R : Valuation Cert.ReferenceIdeal.τ Cert.ReferenceIdeal.sig (Elt Ideal)) : Prop where
  pred : Cert.ReferenceIdeal.Hand.predBoxes R = m ((c : Thread nD τ).loc main_arg0)
  logits : Cert.ReferenceIdeal.Hand.logits R = m ((c : Thread nD τ).loc main_arg1)
  centres : Cert.ReferenceIdeal.Hand.centres R = m ((c : Thread nD τ).loc main_arg2)
  boxes : Cert.ReferenceIdeal.Hand.boxes R = m ((c : Thread nD τ).loc main_arg3)
  grid : Cert.ReferenceIdeal.Hand.grid R = m ((c : Thread nD τ).loc main_arg4)
  targets : Cert.ReferenceIdeal.Hand.targets R = m ((c : Thread nD τ).loc main_arg5)
  positive : Cert.ReferenceIdeal.Hand.positive R = m ((c : Thread nD τ).loc main_arg6)
  matched : Cert.ReferenceIdeal.Hand.matched R = m ((c : Thread nD τ).loc main_arg7)

variable (R : Valuation Cert.ReferenceIdeal.τ Cert.ReferenceIdeal.sig (Elt Ideal)) (a : Agrees m c R)
include a

/-- The lanes add up to the focal sum. -/
theorem lanes_total : (∑ l : Fin 8192, lanes m c 7 (by decide) (ix2 0 l) : EReal)
    = ∑ b : Fin 16, ∑ k : Fin 80, ∑ p : Fin 8192,
        focal (Cert.ReferenceIdeal.Hand.logits R (ix3 b k p)) (Cert.ReferenceIdeal.Hand.targets R (ix3 b k p)) := by
  have e (l : Fin 8192) : (lanes m c 7 (by decide) (ix2 0 l) : EReal) = ∑ b : Fin 16, ∑ k : Fin 80,
      focal (Cert.ReferenceIdeal.Hand.logits R (ix3 b k l)) (Cert.ReferenceIdeal.Hand.targets R (ix3 b k l)) := by
    rw [lanes_sum, ← sum_rows fun b k => focal (Cert.ReferenceIdeal.Hand.logits R (ix3 b k l)) (Cert.ReferenceIdeal.Hand.targets R (ix3 b k l))]
    refine Finset.sum_congr rfl fun n _ => Finset.sum_congr rfl fun r _ => ?_
    rw [a.logits, a.targets]
    exact congrArg₂ focal (logits_at m c _ r l) (targets_at m c _ r l)
  rw [Finset.sum_congr rfl fun l _ => e l, Finset.sum_comm]
  exact Finset.sum_congr rfl fun b _ => Finset.sum_comm

theorem weight_at (b : Fin 16) (p : Fin 8192) :
    (iblk m c 6 startPt (ix2 b p) : EReal) = Cert.ReferenceIdeal.Hand.weight R b p := by
  unfold Cert.ReferenceIdeal.Hand.weight
  rw [a.positive]
  exact positive_at m c b p

theorem mask_total : (sumMask (iblk m c 6 startPt) : EReal) = ∑ b : Fin 16, ∑ p : Fin 8192, Cert.ReferenceIdeal.Hand.weight R b p :=
  (sumMask_eq _).trans (Finset.sum_congr rfl fun b _ => Finset.sum_congr rfl fun p _ => weight_at m c R a b p)

variable (h : Cert.ReferenceIdeal.Hand.Named64 R)

theorem side_at (k : Fin 4) (b : Fin 16) (p : Fin 8192) :
    (gathered (iblk m c 4 startPt) (iblk m c 7 startPt) (ix3 k b p) : EReal) = Cert.ReferenceIdeal.Hand.side R h k b p := by
  have e : (iblk m c 7 startPt (ix2 b p) : BitVec 32) = Cert.ReferenceIdeal.Hand.matched R (ix2 b p) :=
    (matched_at m c b p).trans (congrFun a.matched _).symm
  have hp := h b p
  rw [← e] at hp
  refine (gathered_eq (iblk m c 4 startPt) (iblk m c 7 startPt) k b p hp.1 hp.2).trans ((boxes_at m c b k _).trans ?_)
  unfold Cert.ReferenceIdeal.Hand.side
  rw [a.boxes]
  congr 2
  exact Fin.ext (congrArg (fun x : BitVec 32 => x.toInt.toNat) e)

theorem centre_total : (sumCenter (gathered (iblk m c 4 startPt) (iblk m c 7 startPt)) (iblk m c 3 startPt) (iblk m c 5 startPt) (iblk m c 6 startPt) : EReal)
    = ∑ b : Fin 16, ∑ p : Fin 8192, centreTerm (Cert.ReferenceIdeal.Hand.grid R (ix2 p 0)) (Cert.ReferenceIdeal.Hand.grid R (ix2 p 1))
        (Cert.ReferenceIdeal.Hand.side R h 0 b p) (Cert.ReferenceIdeal.Hand.side R h 1 b p) (Cert.ReferenceIdeal.Hand.side R h 2 b p)
        (Cert.ReferenceIdeal.Hand.side R h 3 b p) (Cert.ReferenceIdeal.Hand.centres R (ix3 b 0 p)) (Cert.ReferenceIdeal.Hand.weight R b p) := by
  refine (sumCenter_eq _ _ _ _).trans (Finset.sum_congr rfl fun b _ => Finset.sum_congr rfl fun p _ => ?_)
  rw [← side_at m c R a h 0 b p, ← side_at m c R a h 1 b p, ← side_at m c R a h 2 b p, ← side_at m c R a h 3 b p,
    ← weight_at m c R a b p, a.grid, a.centres, ← grid_at m c 0 p, ← grid_at m c 1 p, ← centres_at m c b p]

theorem boxes_total : (sumBoxes (gathered (iblk m c 4 startPt) (iblk m c 7 startPt)) (iblk m c 2 startPt) (iblk m c 5 startPt) (iblk m c 6 startPt) : EReal)
    = ∑ b : Fin 16, ∑ p : Fin 8192, boxTerm (Cert.ReferenceIdeal.Hand.grid R (ix2 p 0)) (Cert.ReferenceIdeal.Hand.grid R (ix2 p 1))
        (Cert.ReferenceIdeal.Hand.predBoxes R (ix3 b 0 p)) (Cert.ReferenceIdeal.Hand.predBoxes R (ix3 b 1 p))
        (Cert.ReferenceIdeal.Hand.predBoxes R (ix3 b 2 p)) (Cert.ReferenceIdeal.Hand.predBoxes R (ix3 b 3 p))
        (Cert.ReferenceIdeal.Hand.side R h 0 b p) (Cert.ReferenceIdeal.Hand.side R h 1 b p) (Cert.ReferenceIdeal.Hand.side R h 2 b p)
        (Cert.ReferenceIdeal.Hand.side R h 3 b p) (Cert.ReferenceIdeal.Hand.weight R b p) := by
  refine (sumBoxes_eq _ _ _ _).trans (Finset.sum_congr rfl fun b _ => Finset.sum_congr rfl fun p _ => ?_)
  rw [← side_at m c R a h 0 b p, ← side_at m c R a h 1 b p, ← side_at m c R a h 2 b p, ← side_at m c R a h 3 b p,
    ← weight_at m c R a b p, a.grid, a.pred, ← grid_at m c 0 p, ← grid_at m c 1 p, ← pred_at m c b 0 p, ← pred_at m c b 1 p,
    ← pred_at m c b 2 p, ← pred_at m c b 3 p]

omit a in
theorem words_1 : words m c (ix1 1) = sumMask (iblk m c 6 startPt) := rfl
omit a in
theorem words_2 : words m c (ix1 2) = sumBoxes (gathered (iblk m c 4 startPt) (iblk m c 7 startPt)) (iblk m c 2 startPt) (iblk m c 5 startPt) (iblk m c 6 startPt) := rfl
omit a in
theorem words_3 : words m c (ix1 3) = sumCenter (gathered (iblk m c 4 startPt) (iblk m c 7 startPt)) (iblk m c 3 startPt) (iblk m c 5 startPt) (iblk m c 6 startPt) := rfl

theorem class_word : (k0_pay5 (words m c (ix1 1)) (lanes m c 7 (by decide)) : EReal) = Cert.ReferenceIdeal.Hand.lossClass R := by
  rw [words_1, mask_total m c R a]
  exact (pay5_eq _ _).trans (congrArg (fun s : EReal => Ideal.div (quarter * s) _) (lanes_total m c R a))

theorem box_word : (k0_pay6 (words m c (ix1 1)) (words m c (ix1 2)) : EReal) = Cert.ReferenceIdeal.Hand.lossBox R h := by
  rw [words_1, words_2, mask_total m c R a, boxes_total m c R a h]
  exact pay6_eq _ _

theorem centre_word : (k0_pay7 (words m c (ix1 1)) (words m c (ix1 3)) : EReal) = Cert.ReferenceIdeal.Hand.lossCentre R h := by
  rw [words_1, words_3, mask_total m c R a, centre_total m c R a h]
  exact pay7_eq _ _

/-- The four words. -/
theorem written_0 : (written m c (ix1 0) : EReal) = Cert.ReferenceIdeal.Hand.lossTotal R h :=
  (pay8_eq (words m c (ix1 1)) (words m c (ix1 2)) (words m c (ix1 3)) (lanes m c 7 (by decide))).trans
    (congrArg₂ (fun u v : EReal => u + v) (congrArg₂ (fun u v : EReal => u + two * v) (class_word m c R a) (box_word m c R a h)) (centre_word m c R a h))
theorem written_1 : (written m c (ix1 1) : EReal) = Cert.ReferenceIdeal.Hand.lossClass R := class_word m c R a
theorem written_2 : (written m c (ix1 2) : EReal) = Cert.ReferenceIdeal.Hand.lossBox R h := box_word m c R a h
theorem written_3 : (written m c (ix1 3) : EReal) = Cert.ReferenceIdeal.Hand.lossCentre R h := centre_word m c R a h

end Cert.KernelIdeal.Hand
-- ==== Proof.Agreement.lean ====
/- The reference's four results are the kernel's four result buffers; the precondition read at a place. -/
module

public import proofs.«01_k».proof.Pre_boxes_named
public import proofs.«01_k».proof.Proof.KernelResults
public import Idealize.ShloMosaic.Lib.ReduceAll
public import Idealize.ShloMosaic.Lib.Affine

@[expose] public section

set_option maxRecDepth 16384

noncomputable section

/-- The facts the precondition states of its shapes. -/
theorem Cert.Pre_boxes_named.facts : Cert.Pre_boxes_named.Facts := ⟨by decide, by decide, by decide⟩

namespace Cert.KernelIdeal.Hand

open Idealize.ShloMosaic Idealize.ShloMosaic.TcCoe Idealize.ShloMosaic.Tactic
open Cert.KernelIdeal Cert.KernelIdeal.Gen Cert.Loss

/-- Two scalars with the same element are the same. -/
theorem scalar_ext (x y : FVec Ideal S_ .f32) (h : x ix0 = y ix0) : x = y := by
  funext i
  rw [Subsingleton.elim i ix0]
  exact h

/-- Where the precondition holds, every index lies from 0 to 63. -/
theorem in_range [Cert.Pre_boxes_named.Facts] (x0 : FVec Ideal S16x4x8192 .f32) (x1 : FVec Ideal S16x80x8192 .f32)
    (x2 : FVec Ideal S16x1x8192 .f32) (x3 : FVec Ideal S16x64x4 .f32) (x4 : FVec Ideal S8192x2 .f32)
    (x5 : FVec Ideal S16x80x8192 .f32) (x6 : IVec S16x8192 1) (x7 : IVec S16x8192 32)
    (h : Cert.Pre_boxes_named.fn x0 x1 x2 x3 x4 x5 x6 x7 = fun _ => 1#1) (b : Fin 16) (p : Fin 8192) :
    0 ≤ (x7 (ix2 b p)).toInt ∧ (x7 (ix2 b p)).toInt < 64 := by
  have e := congrFun h ix0
  dsimp only [Cert.Pre_boxes_named.fn] at e
  have q := Host.reduce_andi_all _ _ _ _ _ e (ix2 b p)
  have s : IntOp.andi (IntOp.cmpi .sge (x7 (ix2 b p)) 0#32) (IntOp.cmpi .slt (x7 (ix2 b p)) 64#32) = 1#1 := q
  obtain ⟨s0, s1⟩ := IntOp.andi_eq_one.mp s
  exact ⟨IntOp.cmpi_sge.mp s0, IntOp.cmpi_slt.mp s1⟩

variable (m : (ℓ : Loc nD τ sig) → Buf (Elt Ideal) ℓ) (c : Dev nD)
variable (R : Valuation Cert.ReferenceIdeal.τ Cert.ReferenceIdeal.sig (Elt Ideal)) (a : Agrees m c R)
  (h : Cert.ReferenceIdeal.Hand.Named64 R)
include a h

theorem result_0 : (Cert.ReferenceIdeal.Hand.termTotal R : FVec Ideal S_ .f32)
    = Pipeline.afterTail₀ cfgs (dats m) 0 (V0 m) [hostOps1] c main_v7 := by
  refine Eq.trans ?_ (tail_7 m c).symm
  exact scalar_ext _ _ ((Cert.ReferenceIdeal.Hand.total_at R h).trans ((word_0 (written m c)).trans (written_0 m c R a h)).symm)

theorem result_1 : (Cert.ReferenceIdeal.Hand.termClass R : FVec Ideal S_ .f32)
    = Pipeline.afterTail₀ cfgs (dats m) 0 (V0 m) [hostOps1] c main_v9 := by
  refine Eq.trans ?_ (tail_9 m c).symm
  exact scalar_ext _ _ ((Cert.ReferenceIdeal.Hand.class_at R).trans ((word_1 (written m c)).trans (written_1 m c R a)).symm)

theorem result_2 : (Cert.ReferenceIdeal.Hand.termBox R : FVec Ideal S_ .f32)
    = Pipeline.afterTail₀ cfgs (dats m) 0 (V0 m) [hostOps1] c main_v11 := by
  refine Eq.trans ?_ (tail_11 m c).symm
  exact scalar_ext _ _ ((Cert.ReferenceIdeal.Hand.box_at R h).trans ((word_2 (written m c)).trans (written_2 m c R a h)).symm)

theorem result_3 : (Cert.ReferenceIdeal.Hand.termCentre R : FVec Ideal S_ .f32)
    = Pipeline.afterTail₀ cfgs (dats m) 0 (V0 m) [hostOps1] c main_v13 := by
  refine Eq.trans ?_ (tail_13 m c).symm
  exact scalar_ext _ _ ((Cert.ReferenceIdeal.Hand.centre_loss_at R h).trans ((word_3 (written m c)).trans (written_3 m c R a h)).symm)

end Cert.KernelIdeal.Hand
-- ==== Proof.AsWritten.lean ====
/- The kernel as written leaves its arguments and its semaphores as it found them.

   The program as written and the ideal program differ in one constant, which the ideal one takes by name. Where a named
   constant is read as its own word, the two are one program, so the run of the ideal program, proved for every reading of
   the elements, is the run of the program as written. -/
module

public import proofs.«01_k».proof.Defs
public import proofs.«01_k».proof.Proof.Gen.Kernel
public import proofs.«01_k».proof.Proof.Region
public import Idealize.ShloMosaic.Lib.Claim

@[expose] public section

set_option maxRecDepth 16384

noncomputable section

namespace Cert.KernelIdeal.Hand

open Idealize.ShloMosaic Idealize.SL.Sem

/-- A named constant read as its own word. -/
abbrev asWritten : Named Bits where
  named _ _ φ bits := FloatOps.ofBits φ bits

/-- The host lines are the same. -/
theorem main_eq : @Cert.KernelIdeal.main Bits _ Cert.KernelIdeal.Gen.facts = @Cert.Kernel.main Bits _ Cert.Kernel.Gen.facts := by
  unfold Cert.KernelIdeal.main Cert.Kernel.main
  rfl

/-- The kernel's function is the same. -/
theorem body_eq : @Cert.KernelIdeal.cc0__loss_kernel Bits _ asWritten Cert.KernelIdeal.Gen.facts
    = @Cert.Kernel.cc0__loss_kernel Bits _ Cert.Kernel.Gen.facts := by
  unfold Cert.KernelIdeal.cc0__loss_kernel Cert.Kernel.cc0__loss_kernel
  rfl

/-- The function is called on the same buffers. -/
theorem table_eq : @Cert.KernelIdeal.defs₀ Bits _ asWritten Cert.KernelIdeal.Gen.facts
    = @Cert.Kernel.defs₀ Bits _ Cert.Kernel.Gen.facts := by
  unfold Cert.KernelIdeal.defs₀ Cert.Kernel.defs₀
  congr 1
  funext l x
  match l, x with
  | 0, (t, s) =>
    dsimp only
    rw [body_eq]
    rfl

/-- The whole table of bodies is the same. -/
theorem defs_eq : @Cert.KernelIdeal.defs Bits _ asWritten Cert.KernelIdeal.Gen.facts
    = @Cert.Kernel.defs Bits _ Cert.Kernel.Gen.facts := by
  unfold Cert.KernelIdeal.defs Cert.Kernel.defs
  rw [table_eq]
  rfl

/-- The kernel as written ends with its arguments unchanged and its semaphores at zero. -/
theorem written_quiet : Cert.quiescent_Kernel := by
  intro m g _
  letI : Named Bits := asWritten
  have h := (θ_run (Cert.KernelIdeal.defs (F := Bits)) _ _).mono (fun _ h => And.intro h.1 h.2.2) (θ_run_and
    (Cert.KernelIdeal.Gen.frame_of (F := Bits) m g (dats m) (A_eq m) (run m g)) (run_quiescent (F := Bits) m g))
  rw [defs_eq, main_eq] at h
  exact h

end Cert.KernelIdeal.Hand

end
-- ==== Proof.lean ====
/- The claims: the program as written and its reading on the extended reals leave their arguments and their semaphores as
   they found them, so does the reference, and from the same arguments the kernel's four results are the reference's. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agreement
public import proofs.«01_k».proof.Proof.AsWritten
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- The kernel on the extended reals ends with its arguments unchanged and its semaphores at zero. -/
theorem kernel_quiet : Cert.quiescent_KernelIdeal := fun m g _ =>
  (θ_run Cert.KernelIdeal.defs _ _).mono (fun _ h => ⟨h.1, h.2.2⟩) (θ_run_and
    (Cert.KernelIdeal.Gen.frame_of m g (Cert.KernelIdeal.Hand.dats m) (Cert.KernelIdeal.Hand.A_eq m) (Cert.KernelIdeal.Hand.run m g))
    (Cert.KernelIdeal.Hand.run_quiescent m g))

/-- The reference ends with its arguments unchanged and its semaphores at zero. -/
theorem reference_quiet : Cert.quiescent_ReferenceIdeal := fun m g _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m g)

/-- From the same arguments, where every index names a box, the kernel's results are the reference's. -/
theorem same_results [Cert.Pre_boxes_named.Facts] : Cert.algebraic_KernelIdeal_ReferenceIdeal_pre_boxes_named := by
  intro m g m' g' hp ha
  have a (c : Dev Cert.KernelIdeal.nD) : Cert.KernelIdeal.Hand.Agrees m c (StableHlo.launchContents m' c) :=
    ⟨(ha c).1, (ha c).2.1, (ha c).2.2.1, (ha c).2.2.2.1, (ha c).2.2.2.2.1, (ha c).2.2.2.2.2.1, (ha c).2.2.2.2.2.2.1, (ha c).2.2.2.2.2.2.2⟩
  have n (c : Dev Cert.KernelIdeal.nD) : Cert.ReferenceIdeal.Hand.Named64 (StableHlo.launchContents m' c) := fun b p => by
    rw [(a c).matched]
    exact Cert.KernelIdeal.Hand.in_range _ _ _ _ _ _ _ _ (hp c) b p
  refine ⟨fun c => Pipeline.afterTail₀ Cert.KernelIdeal.cfgs (Cert.KernelIdeal.Hand.dats m) 0 (Cert.KernelIdeal.Gen.V0 m) [Cert.KernelIdeal.Gen.hostOps1] c Cert.KernelIdeal.main_v7,
    fun c => Pipeline.afterTail₀ Cert.KernelIdeal.cfgs (Cert.KernelIdeal.Hand.dats m) 0 (Cert.KernelIdeal.Gen.V0 m) [Cert.KernelIdeal.Gen.hostOps1] c Cert.KernelIdeal.main_v9,
    fun c => Pipeline.afterTail₀ Cert.KernelIdeal.cfgs (Cert.KernelIdeal.Hand.dats m) 0 (Cert.KernelIdeal.Gen.V0 m) [Cert.KernelIdeal.Gen.hostOps1] c Cert.KernelIdeal.main_v11,
    fun c => Pipeline.afterTail₀ Cert.KernelIdeal.cfgs (Cert.KernelIdeal.Hand.dats m) 0 (Cert.KernelIdeal.Gen.V0 m) [Cert.KernelIdeal.Gen.hostOps1] c Cert.KernelIdeal.main_v13, ?_, ?_⟩
  · exact (θ_run Cert.KernelIdeal.defs _ _).mono (fun _ h c => ⟨
        (h.2 c).2 Cert.KernelIdeal.main_v7 (Pipeline.mem_restRefs_of Cert.KernelIdeal.main_v7 (by decide) (by decide)),
        (h.2 c).2 Cert.KernelIdeal.main_v9 (Pipeline.mem_restRefs_of Cert.KernelIdeal.main_v9 (by decide) (by decide)),
        (h.2 c).2 Cert.KernelIdeal.main_v11 (Pipeline.mem_restRefs_of Cert.KernelIdeal.main_v11 (by decide) (by decide)),
        (h.2 c).2 Cert.KernelIdeal.main_v13 (Pipeline.mem_restRefs_of Cert.KernelIdeal.main_v13 (by decide) (by decide)),
        h.1 c⟩) (θ_run_and
      (Cert.KernelIdeal.Gen.frame_of m g (Cert.KernelIdeal.Hand.dats m) (Cert.KernelIdeal.Hand.A_eq m) (Cert.KernelIdeal.Hand.run m g))
      (Cert.KernelIdeal.Hand.run m g))
  · exact (θ_run Cert.ReferenceIdeal.defs _ _).mono (fun _ h c => ⟨
        (h c).1.trans (Cert.KernelIdeal.Hand.result_0 m c _ (a c) (n c)),
        (h c).2.1.trans (Cert.KernelIdeal.Hand.result_1 m c _ (a c) (n c)),
        (h c).2.2.1.trans (Cert.KernelIdeal.Hand.result_2 m c _ (a c) (n c)),
        (h c).2.2.2.1.trans (Cert.KernelIdeal.Hand.result_3 m c _ (a c) (n c)),
        (h c).2.2.2.2⟩) (Cert.ReferenceIdeal.Value.run (F := Ideal) m' g')

theorem claim : Cert.Claim :=
  ⟨Cert.Kernel.Gen.facts, Cert.KernelIdeal.Gen.facts, Cert.ReferenceIdeal.Gen.facts, Cert.Pre_boxes_named.facts,
    Cert.KernelIdeal.Hand.written_quiet,
    kernel_quiet,
    fun m g _ => kernel_quiet m g trivial,
    reference_quiet,
    fun m g _ => reference_quiet m g trivial,
    IdealRules.named_const.statement Cert.KernelIdeal.κ "neg_log2_e" .f32 0xBFB8AA3B#32 ((-((Real.log 2)⁻¹) : ℝ) : EReal) rfl,
    @same_results Cert.Pre_boxes_named.facts⟩

end Cert.Proof

end
